-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S4096x2048 : Shape := ⟨2, ![4096, 2048]⟩
abbrev S7x512x2048 : Shape := ⟨3, ![7, 512, 2048]⟩
abbrev S8x128 : Shape := ⟨2, ![8, 128]⟩
abbrev S7x8x128 : Shape := ⟨3, ![7, 8, 128]⟩
abbrev S7 : Shape := ⟨1, ![7]⟩
abbrev S_ : Shape := ⟨0, ![]⟩
abbrev S512x512 : Shape := ⟨2, ![512, 512]⟩
abbrev S1x512x2048 : Shape := ⟨3, ![1, 512, 2048]⟩
abbrev S1 : Shape := ⟨1, ![1]⟩
abbrev S1x1x1 : Shape := ⟨3, ![1, 1, 1]⟩
abbrev S1x8x128 : Shape := ⟨3, ![1, 8, 128]⟩
abbrev S1x7x8x128 : Shape := ⟨4, ![1, 7, 8, 128]⟩
abbrev S1x1x1x1 : Shape := ⟨4, ![1, 1, 1, 1]⟩

abbrev nBuf : Space → Nat
  | .hbm => 3
  | .vmem => 9
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .bf16⟩
  | .local _ .vmem, ⟨0, _⟩ => ⟨S4096x512, .bf16⟩
  | .local _ .vmem, ⟨1, _⟩ => ⟨S512x2048, .bf16⟩
  | .local _ .vmem, ⟨2, _⟩ => ⟨S4096x2048, .bf16⟩
  | .local _ .vmem, ⟨3, _⟩ => ⟨S7x512x2048, .bf16⟩
  | .local _ .vmem, ⟨4, _⟩ => ⟨S7x512x2048, .bf16⟩
  | .local _ .vmem, ⟨5, _⟩ => ⟨S7x512x2048, .fp8e4m3⟩
  | .local _ .vmem, ⟨6, _⟩ => ⟨S512x2048, .fp8e4m3⟩
  | .local _ .vmem, ⟨7, _⟩ => ⟨S8x128, .f32⟩
  | .local _ .vmem, ⟨8, _⟩ => ⟨S7x8x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 1 45 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c1_i32_64 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let c512_i32 : BitVec 32 := 512#32
  let v106 : BitVec 32 := Scalar.muli v105 c512_i32
  let v107 : Index := Scalar.indexCast v106
  let c0 : Index := 0#32
  ![v107.toNat, 0]
def k0_dev8 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_64 : BitVec 32 := 1#32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let c1_i32_79 : BitVec 32 := 1#32
  let v117 : BitVec 32 := Scalar.muli v105 c1_i32_79
  let v118 : BitVec 32 := Scalar.addi c0_i32_80 v117
  v118.toNat
def k0_dev9 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_85 : BitVec 32 := 2#32
  let v127 : BitVec 32 := Scalar.addi v2 c2_i32_85
  let c8_i32_86 : BitVec 32 := 8#32
  let c0_i32_87 : BitVec 32 := 0#32
  let v128 : BitVec 1 := Scalar.cmpi .eq c8_i32_86 c0_i32_87
  let c1_i32_88 : BitVec 32 := 1#32
  let v129 : BitVec 32 := Scalar.select v128 c1_i32_88 c8_i32_86
  let v130 : BitVec 32 := Scalar.remsi v127 v129
  let c0_i32_90 : BitVec 32 := 0#32
  let v132 : BitVec 1 := Scalar.cmpi .slt v130 c0_i32_90
  let c0_i32_91 : BitVec 32 := 0#32
  let v133 : BitVec 1 := Scalar.cmpi .slt v129 c0_i32_91
  let v134 : BitVec 1 := Scalar.xori v132 v133
  let c0_i32_89 : BitVec 32 := 0#32
  let v131 : BitVec 1 := Scalar.cmpi .ne v130 c0_i32_89
  let v135 : BitVec 1 := Scalar.andi v134 v131
  let v136 : BitVec 32 := Scalar.addi v130 v129
  let v137 : BitVec 32 := Scalar.select v135 v136 v130
  let c1_i32_103 : BitVec 32 := 1#32
  let v149 : BitVec 32 := Scalar.muli v137 c1_i32_103
  let v150 : BitVec 32 := Scalar.addi c0_i32_104 v149
  v150.toNat
def k0_dev10 (d0 : Dev nD) : Nat :=
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_109 : BitVec 32 := 3#32
  let v159 : BitVec 32 := Scalar.addi v2 c3_i32_109
  let c8_i32_110 : BitVec 32 := 8#32
  let c0_i32_111 : BitVec 32 := 0#32
  let v160 : BitVec 1 := Scalar.cmpi .eq c8_i32_110 c0_i32_111
  let c1_i32_112 : BitVec 32 := 1#32
  let v161 : BitVec 32 := Scalar.select v160 c1_i32_112 c8_i32_110
  let v162 : BitVec 32 := Scalar.remsi v159 v161
  let c0_i32_114 : BitVec 32 := 0#32
  let v164 : BitVec 1 := Scalar.cmpi .slt v162 c0_i32_114
  let c0_i32_115 : BitVec 32 := 0#32
  let v165 : BitVec 1 := Scalar.cmpi .slt v161 c0_i32_115
  let v166 : BitVec 1 := Scalar.xori v164 v165
  let c0_i32_113 : BitVec 32 := 0#32
  let v163 : BitVec 1 := Scalar.cmpi .ne v162 c0_i32_113
  let v167 : BitVec 1 := Scalar.andi v166 v163
  let v168 : BitVec 32 := Scalar.addi v162 v161
  let v169 : BitVec 32 := Scalar.select v167 v168 v162
  let c1_i32_127 : BitVec 32 := 1#32
  let v181 : BitVec 32 := Scalar.muli v169 c1_i32_127
  let v182 : BitVec 32 := Scalar.addi c0_i32_128 v181
  v182.toNat
def k0_dev11 (d0 : Dev nD) : Nat :=
  let c0_i32_152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_133 : BitVec 32 := 4#32
  let v191 : BitVec 32 := Scalar.addi v2 c4_i32_133
  let c8_i32_134 : BitVec 32 := 8#32
  let c0_i32_135 : BitVec 32 := 0#32
  let v192 : BitVec 1 := Scalar.cmpi .eq c8_i32_134 c0_i32_135
  let c1_i32_136 : BitVec 32 := 1#32
  let v193 : BitVec 32 := Scalar.select v192 c1_i32_136 c8_i32_134
  let v194 : BitVec 32 := Scalar.remsi v191 v193
  let c0_i32_138 : BitVec 32 := 0#32
  let v196 : BitVec 1 := Scalar.cmpi .slt v194 c0_i32_138
  let c0_i32_139 : BitVec 32 := 0#32
  let v197 : BitVec 1 := Scalar.cmpi .slt v193 c0_i32_139
  let v198 : BitVec 1 := Scalar.xori v196 v197
  let c0_i32_137 : BitVec 32 := 0#32
  let v195 : BitVec 1 := Scalar.cmpi .ne v194 c0_i32_137
  let v199 : BitVec 1 := Scalar.andi v198 v195
  let v200 : BitVec 32 := Scalar.addi v194 v193
  let v201 : BitVec 32 := Scalar.select v199 v200 v194
  let c1_i32_151 : BitVec 32 := 1#32
  let v213 : BitVec 32 := Scalar.muli v201 c1_i32_151
  let v214 : BitVec 32 := Scalar.addi c0_i32_152 v213
  v214.toNat
def k0_dev12 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_157 : BitVec 32 := 5#32
  let v223 : BitVec 32 := Scalar.addi v2 c5_i32_157
  let c8_i32_158 : BitVec 32 := 8#32
  let c0_i32_159 : BitVec 32 := 0#32
  let v224 : BitVec 1 := Scalar.cmpi .eq c8_i32_158 c0_i32_159
  let c1_i32_160 : BitVec 32 := 1#32
  let v225 : BitVec 32 := Scalar.select v224 c1_i32_160 c8_i32_158
  let v226 : BitVec 32 := Scalar.remsi v223 v225
  let c0_i32_162 : BitVec 32 := 0#32
  let v228 : BitVec 1 := Scalar.cmpi .slt v226 c0_i32_162
  let c0_i32_163 : BitVec 32 := 0#32
  let v229 : BitVec 1 := Scalar.cmpi .slt v225 c0_i32_163
  let v230 : BitVec 1 := Scalar.xori v228 v229
  let c0_i32_161 : BitVec 32 := 0#32
  let v227 : BitVec 1 := Scalar.cmpi .ne v226 c0_i32_161
  let v231 : BitVec 1 := Scalar.andi v230 v227
  let v232 : BitVec 32 := Scalar.addi v226 v225
  let v233 : BitVec 32 := Scalar.select v231 v232 v226
  let c1_i32_175 : BitVec 32 := 1#32
  let v245 : BitVec 32 := Scalar.muli v233 c1_i32_175
  let v246 : BitVec 32 := Scalar.addi c0_i32_176 v245
  v246.toNat
def k0_dev13 (d0 : Dev nD) : Nat :=
  let c0_i32_200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_181 : BitVec 32 := 6#32
  let v255 : BitVec 32 := Scalar.addi v2 c6_i32_181
  let c8_i32_182 : BitVec 32 := 8#32
  let c0_i32_183 : BitVec 32 := 0#32
  let v256 : BitVec 1 := Scalar.cmpi .eq c8_i32_182 c0_i32_183
  let c1_i32_184 : BitVec 32 := 1#32
  let v257 : BitVec 32 := Scalar.select v256 c1_i32_184 c8_i32_182
  let v258 : BitVec 32 := Scalar.remsi v255 v257
  let c0_i32_186 : BitVec 32 := 0#32
  let v260 : BitVec 1 := Scalar.cmpi .slt v258 c0_i32_186
  let c0_i32_187 : BitVec 32 := 0#32
  let v261 : BitVec 1 := Scalar.cmpi .slt v257 c0_i32_187
  let v262 : BitVec 1 := Scalar.xori v260 v261
  let c0_i32_185 : BitVec 32 := 0#32
  let v259 : BitVec 1 := Scalar.cmpi .ne v258 c0_i32_185
  let v263 : BitVec 1 := Scalar.andi v262 v259
  let v264 : BitVec 32 := Scalar.addi v258 v257
  let v265 : BitVec 32 := Scalar.select v263 v264 v258
  let c1_i32_199 : BitVec 32 := 1#32
  let v277 : BitVec 32 := Scalar.muli v265 c1_i32_199
  let v278 : BitVec 32 := Scalar.addi c0_i32_200 v277
  v278.toNat
def k0_dev14 (d0 : Dev nD) : Nat :=
  let c0_i32_225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_205 : BitVec 32 := 7#32
  let v287 : BitVec 32 := Scalar.addi v2 c7_i32_205
  let c8_i32_206 : BitVec 32 := 8#32
  let c0_i32_207 : BitVec 32 := 0#32
  let v288 : BitVec 1 := Scalar.cmpi .eq c8_i32_206 c0_i32_207
  let c1_i32_208 : BitVec 32 := 1#32
  let v289 : BitVec 32 := Scalar.select v288 c1_i32_208 c8_i32_206
  let v290 : BitVec 32 := Scalar.remsi v287 v289
  let c0_i32_210 : BitVec 32 := 0#32
  let v292 : BitVec 1 := Scalar.cmpi .slt v290 c0_i32_210
  let c0_i32_211 : BitVec 32 := 0#32
  let v293 : BitVec 1 := Scalar.cmpi .slt v289 c0_i32_211
  let v294 : BitVec 1 := Scalar.xori v292 v293
  let c0_i32_209 : BitVec 32 := 0#32
  let v291 : BitVec 1 := Scalar.cmpi .ne v290 c0_i32_209
  let v295 : BitVec 1 := Scalar.andi v294 v291
  let v296 : BitVec 32 := Scalar.addi v290 v289
  let v297 : BitVec 32 := Scalar.select v295 v296 v290
  let c1_i32_224 : BitVec 32 := 1#32
  let v309 : BitVec 32 := Scalar.muli v297 c1_i32_224
  let v310 : BitVec 32 := Scalar.addi c0_i32_225 v309
  v310.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_230 : BitVec 32 := 512#32
  let v319 : BitVec 32 := Scalar.muli v2 c512_i32_230
  let v320 : Index := Scalar.indexCast v319
  let c0_231 : Index := 0#32
  ![v320.toNat, 0]
def k0_dev15 (d0 : Dev nD) : Nat :=
  let c0_i32_404 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_393 : BitVec 32 := 1#32
  let v463 : BitVec 32 := Scalar.addi v2 c1_i32_393
  let c8_i32_394 : BitVec 32 := 8#32
  let c0_i32_395 : BitVec 32 := 0#32
  let v464 : BitVec 1 := Scalar.cmpi .eq c8_i32_394 c0_i32_395
  let c1_i32_396 : BitVec 32 := 1#32
  let v465 : BitVec 32 := Scalar.select v464 c1_i32_396 c8_i32_394
  let v466 : BitVec 32 := Scalar.remsi v463 v465
  let c0_i32_398 : BitVec 32 := 0#32
  let v468 : BitVec 1 := Scalar.cmpi .slt v466 c0_i32_398
  let c0_i32_399 : BitVec 32 := 0#32
  let v469 : BitVec 1 := Scalar.cmpi .slt v465 c0_i32_399
  let v470 : BitVec 1 := Scalar.xori v468 v469
  let c0_i32_397 : BitVec 32 := 0#32
  let v467 : BitVec 1 := Scalar.cmpi .ne v466 c0_i32_397
  let v471 : BitVec 1 := Scalar.andi v470 v467
  let v472 : BitVec 32 := Scalar.addi v466 v465
  let v473 : BitVec 32 := Scalar.select v471 v472 v466
  let c1_i32_403 : BitVec 32 := 1#32
  let v474 : BitVec 32 := Scalar.muli v473 c1_i32_403
  let v475 : BitVec 32 := Scalar.addi c0_i32_404 v474
  v475.toNat
def k0_dev16 (d0 : Dev nD) : Nat :=
  let c0_i32_418 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_407 : BitVec 32 := 2#32
  let v482 : BitVec 32 := Scalar.addi v2 c2_i32_407
  let c8_i32_408 : BitVec 32 := 8#32
  let c0_i32_409 : BitVec 32 := 0#32
  let v483 : BitVec 1 := Scalar.cmpi .eq c8_i32_408 c0_i32_409
  let c1_i32_410 : BitVec 32 := 1#32
  let v484 : BitVec 32 := Scalar.select v483 c1_i32_410 c8_i32_408
  let v485 : BitVec 32 := Scalar.remsi v482 v484
  let c0_i32_412 : BitVec 32 := 0#32
  let v487 : BitVec 1 := Scalar.cmpi .slt v485 c0_i32_412
  let c0_i32_413 : BitVec 32 := 0#32
  let v488 : BitVec 1 := Scalar.cmpi .slt v484 c0_i32_413
  let v489 : BitVec 1 := Scalar.xori v487 v488
  let c0_i32_411 : BitVec 32 := 0#32
  let v486 : BitVec 1 := Scalar.cmpi .ne v485 c0_i32_411
  let v490 : BitVec 1 := Scalar.andi v489 v486
  let v491 : BitVec 32 := Scalar.addi v485 v484
  let v492 : BitVec 32 := Scalar.select v490 v491 v485
  let c1_i32_417 : BitVec 32 := 1#32
  let v493 : BitVec 32 := Scalar.muli v492 c1_i32_417
  let v494 : BitVec 32 := Scalar.addi c0_i32_418 v493
  v494.toNat
def k0_dev17 (d0 : Dev nD) : Nat :=
  let c0_i32_432 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_421 : BitVec 32 := 3#32
  let v501 : BitVec 32 := Scalar.addi v2 c3_i32_421
  let c8_i32_422 : BitVec 32 := 8#32
  let c0_i32_423 : BitVec 32 := 0#32
  let v502 : BitVec 1 := Scalar.cmpi .eq c8_i32_422 c0_i32_423
  let c1_i32_424 : BitVec 32 := 1#32
  let v503 : BitVec 32 := Scalar.select v502 c1_i32_424 c8_i32_422
  let v504 : BitVec 32 := Scalar.remsi v501 v503
  let c0_i32_426 : BitVec 32 := 0#32
  let v506 : BitVec 1 := Scalar.cmpi .slt v504 c0_i32_426
  let c0_i32_427 : BitVec 32 := 0#32
  let v507 : BitVec 1 := Scalar.cmpi .slt v503 c0_i32_427
  let v508 : BitVec 1 := Scalar.xori v506 v507
  let c0_i32_425 : BitVec 32 := 0#32
  let v505 : BitVec 1 := Scalar.cmpi .ne v504 c0_i32_425
  let v509 : BitVec 1 := Scalar.andi v508 v505
  let v510 : BitVec 32 := Scalar.addi v504 v503
  let v511 : BitVec 32 := Scalar.select v509 v510 v504
  let c1_i32_431 : BitVec 32 := 1#32
  let v512 : BitVec 32 := Scalar.muli v511 c1_i32_431
  let v513 : BitVec 32 := Scalar.addi c0_i32_432 v512
  v513.toNat
def k0_dev18 (d0 : Dev nD) : Nat :=
  let c0_i32_446 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_435 : BitVec 32 := 4#32
  let v520 : BitVec 32 := Scalar.addi v2 c4_i32_435
  let c8_i32_436 : BitVec 32 := 8#32
  let c0_i32_437 : BitVec 32 := 0#32
  let v521 : BitVec 1 := Scalar.cmpi .eq c8_i32_436 c0_i32_437
  let c1_i32_438 : BitVec 32 := 1#32
  let v522 : BitVec 32 := Scalar.select v521 c1_i32_438 c8_i32_436
  let v523 : BitVec 32 := Scalar.remsi v520 v522
  let c0_i32_440 : BitVec 32 := 0#32
  let v525 : BitVec 1 := Scalar.cmpi .slt v523 c0_i32_440
  let c0_i32_441 : BitVec 32 := 0#32
  let v526 : BitVec 1 := Scalar.cmpi .slt v522 c0_i32_441
  let v527 : BitVec 1 := Scalar.xori v525 v526
  let c0_i32_439 : BitVec 32 := 0#32
  let v524 : BitVec 1 := Scalar.cmpi .ne v523 c0_i32_439
  let v528 : BitVec 1 := Scalar.andi v527 v524
  let v529 : BitVec 32 := Scalar.addi v523 v522
  let v530 : BitVec 32 := Scalar.select v528 v529 v523
  let c1_i32_445 : BitVec 32 := 1#32
  let v531 : BitVec 32 := Scalar.muli v530 c1_i32_445
  let v532 : BitVec 32 := Scalar.addi c0_i32_446 v531
  v532.toNat
def k0_dev19 (d0 : Dev nD) : Nat :=
  let c0_i32_460 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_449 : BitVec 32 := 5#32
  let v539 : BitVec 32 := Scalar.addi v2 c5_i32_449
  let c8_i32_450 : BitVec 32 := 8#32
  let c0_i32_451 : BitVec 32 := 0#32
  let v540 : BitVec 1 := Scalar.cmpi .eq c8_i32_450 c0_i32_451
  let c1_i32_452 : BitVec 32 := 1#32
  let v541 : BitVec 32 := Scalar.select v540 c1_i32_452 c8_i32_450
  let v542 : BitVec 32 := Scalar.remsi v539 v541
  let c0_i32_454 : BitVec 32 := 0#32
  let v544 : BitVec 1 := Scalar.cmpi .slt v542 c0_i32_454
  let c0_i32_455 : BitVec 32 := 0#32
  let v545 : BitVec 1 := Scalar.cmpi .slt v541 c0_i32_455
  let v546 : BitVec 1 := Scalar.xori v544 v545
  let c0_i32_453 : BitVec 32 := 0#32
  let v543 : BitVec 1 := Scalar.cmpi .ne v542 c0_i32_453
  let v547 : BitVec 1 := Scalar.andi v546 v543
  let v548 : BitVec 32 := Scalar.addi v542 v541
  let v549 : BitVec 32 := Scalar.select v547 v548 v542
  let c1_i32_459 : BitVec 32 := 1#32
  let v550 : BitVec 32 := Scalar.muli v549 c1_i32_459
  let v551 : BitVec 32 := Scalar.addi c0_i32_460 v550
  v551.toNat
def k0_dev20 (d0 : Dev nD) : Nat :=
  let c0_i32_474 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_463 : BitVec 32 := 6#32
  let v558 : BitVec 32 := Scalar.addi v2 c6_i32_463
  let c8_i32_464 : BitVec 32 := 8#32
  let c0_i32_465 : BitVec 32 := 0#32
  let v559 : BitVec 1 := Scalar.cmpi .eq c8_i32_464 c0_i32_465
  let c1_i32_466 : BitVec 32 := 1#32
  let v560 : BitVec 32 := Scalar.select v559 c1_i32_466 c8_i32_464
  let v561 : BitVec 32 := Scalar.remsi v558 v560
  let c0_i32_468 : BitVec 32 := 0#32
  let v563 : BitVec 1 := Scalar.cmpi .slt v561 c0_i32_468
  let c0_i32_469 : BitVec 32 := 0#32
  let v564 : BitVec 1 := Scalar.cmpi .slt v560 c0_i32_469
  let v565 : BitVec 1 := Scalar.xori v563 v564
  let c0_i32_467 : BitVec 32 := 0#32
  let v562 : BitVec 1 := Scalar.cmpi .ne v561 c0_i32_467
  let v566 : BitVec 1 := Scalar.andi v565 v562
  let v567 : BitVec 32 := Scalar.addi v561 v560
  let v568 : BitVec 32 := Scalar.select v566 v567 v561
  let c1_i32_473 : BitVec 32 := 1#32
  let v569 : BitVec 32 := Scalar.muli v568 c1_i32_473
  let v570 : BitVec 32 := Scalar.addi c0_i32_474 v569
  v570.toNat
def k0_dev21 (d0 : Dev nD) : Nat :=
  let c0_i32_488 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_477 : BitVec 32 := 7#32
  let v577 : BitVec 32 := Scalar.addi v2 c7_i32_477
  let c8_i32_478 : BitVec 32 := 8#32
  let c0_i32_479 : BitVec 32 := 0#32
  let v578 : BitVec 1 := Scalar.cmpi .eq c8_i32_478 c0_i32_479
  let c1_i32_480 : BitVec 32 := 1#32
  let v579 : BitVec 32 := Scalar.select v578 c1_i32_480 c8_i32_478
  let v580 : BitVec 32 := Scalar.remsi v577 v579
  let c0_i32_482 : BitVec 32 := 0#32
  let v582 : BitVec 1 := Scalar.cmpi .slt v580 c0_i32_482
  let c0_i32_483 : BitVec 32 := 0#32
  let v583 : BitVec 1 := Scalar.cmpi .slt v579 c0_i32_483
  let v584 : BitVec 1 := Scalar.xori v582 v583
  let c0_i32_481 : BitVec 32 := 0#32
  let v581 : BitVec 1 := Scalar.cmpi .ne v580 c0_i32_481
  let v585 : BitVec 1 := Scalar.andi v584 v581
  let v586 : BitVec 32 := Scalar.addi v580 v579
  let v587 : BitVec 32 := Scalar.select v585 v586 v580
  let c1_i32_487 : BitVec 32 := 1#32
  let v588 : BitVec 32 := Scalar.muli v587 c1_i32_487
  let v589 : BitVec 32 := Scalar.addi c0_i32_488 v588
  v589.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_589 : BitVec 32 := 512#32
  let v683 : BitVec 32 := Scalar.muli v2 c512_i32_589
  let v684 : Index := Scalar.indexCast v683
  let c0_590 : Index := 0#32
  ![v684.toNat, 0]
def k0_dev22 (d0 : Dev nD) : Nat :=
  let c0_i32_602 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_591 : BitVec 32 := 1#32
  let v686 : BitVec 32 := Scalar.addi v2 c1_i32_591
  let c8_i32_592 : BitVec 32 := 8#32
  let c0_i32_593 : BitVec 32 := 0#32
  let v687 : BitVec 1 := Scalar.cmpi .eq c8_i32_592 c0_i32_593
  let c1_i32_594 : BitVec 32 := 1#32
  let v688 : BitVec 32 := Scalar.select v687 c1_i32_594 c8_i32_592
  let v689 : BitVec 32 := Scalar.remsi v686 v688
  let c0_i32_596 : BitVec 32 := 0#32
  let v691 : BitVec 1 := Scalar.cmpi .slt v689 c0_i32_596
  let c0_i32_597 : BitVec 32 := 0#32
  let v692 : BitVec 1 := Scalar.cmpi .slt v688 c0_i32_597
  let v693 : BitVec 1 := Scalar.xori v691 v692
  let c0_i32_595 : BitVec 32 := 0#32
  let v690 : BitVec 1 := Scalar.cmpi .ne v689 c0_i32_595
  let v694 : BitVec 1 := Scalar.andi v693 v690
  let v695 : BitVec 32 := Scalar.addi v689 v688
  let v696 : BitVec 32 := Scalar.select v694 v695 v689
  let c1_i32_601 : BitVec 32 := 1#32
  let v697 : BitVec 32 := Scalar.muli v696 c1_i32_601
  let v698 : BitVec 32 := Scalar.addi c0_i32_602 v697
  v698.toNat
def k0_dev23 (d0 : Dev nD) : Nat :=
  let c0_i32_616 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_605 : BitVec 32 := 2#32
  let v705 : BitVec 32 := Scalar.addi v2 c2_i32_605
  let c8_i32_606 : BitVec 32 := 8#32
  let c0_i32_607 : BitVec 32 := 0#32
  let v706 : BitVec 1 := Scalar.cmpi .eq c8_i32_606 c0_i32_607
  let c1_i32_608 : BitVec 32 := 1#32
  let v707 : BitVec 32 := Scalar.select v706 c1_i32_608 c8_i32_606
  let v708 : BitVec 32 := Scalar.remsi v705 v707
  let c0_i32_610 : BitVec 32 := 0#32
  let v710 : BitVec 1 := Scalar.cmpi .slt v708 c0_i32_610
  let c0_i32_611 : BitVec 32 := 0#32
  let v711 : BitVec 1 := Scalar.cmpi .slt v707 c0_i32_611
  let v712 : BitVec 1 := Scalar.xori v710 v711
  let c0_i32_609 : BitVec 32 := 0#32
  let v709 : BitVec 1 := Scalar.cmpi .ne v708 c0_i32_609
  let v713 : BitVec 1 := Scalar.andi v712 v709
  let v714 : BitVec 32 := Scalar.addi v708 v707
  let v715 : BitVec 32 := Scalar.select v713 v714 v708
  let c1_i32_615 : BitVec 32 := 1#32
  let v716 : BitVec 32 := Scalar.muli v715 c1_i32_615
  let v717 : BitVec 32 := Scalar.addi c0_i32_616 v716
  v717.toNat
def k0_dev24 (d0 : Dev nD) : Nat :=
  let c0_i32_630 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_619 : BitVec 32 := 3#32
  let v724 : BitVec 32 := Scalar.addi v2 c3_i32_619
  let c8_i32_620 : BitVec 32 := 8#32
  let c0_i32_621 : BitVec 32 := 0#32
  let v725 : BitVec 1 := Scalar.cmpi .eq c8_i32_620 c0_i32_621
  let c1_i32_622 : BitVec 32 := 1#32
  let v726 : BitVec 32 := Scalar.select v725 c1_i32_622 c8_i32_620
  let v727 : BitVec 32 := Scalar.remsi v724 v726
  let c0_i32_624 : BitVec 32 := 0#32
  let v729 : BitVec 1 := Scalar.cmpi .slt v727 c0_i32_624
  let c0_i32_625 : BitVec 32 := 0#32
  let v730 : BitVec 1 := Scalar.cmpi .slt v726 c0_i32_625
  let v731 : BitVec 1 := Scalar.xori v729 v730
  let c0_i32_623 : BitVec 32 := 0#32
  let v728 : BitVec 1 := Scalar.cmpi .ne v727 c0_i32_623
  let v732 : BitVec 1 := Scalar.andi v731 v728
  let v733 : BitVec 32 := Scalar.addi v727 v726
  let v734 : BitVec 32 := Scalar.select v732 v733 v727
  let c1_i32_629 : BitVec 32 := 1#32
  let v735 : BitVec 32 := Scalar.muli v734 c1_i32_629
  let v736 : BitVec 32 := Scalar.addi c0_i32_630 v735
  v736.toNat
def k0_dev25 (d0 : Dev nD) : Nat :=
  let c0_i32_644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_633 : BitVec 32 := 4#32
  let v743 : BitVec 32 := Scalar.addi v2 c4_i32_633
  let c8_i32_634 : BitVec 32 := 8#32
  let c0_i32_635 : BitVec 32 := 0#32
  let v744 : BitVec 1 := Scalar.cmpi .eq c8_i32_634 c0_i32_635
  let c1_i32_636 : BitVec 32 := 1#32
  let v745 : BitVec 32 := Scalar.select v744 c1_i32_636 c8_i32_634
  let v746 : BitVec 32 := Scalar.remsi v743 v745
  let c0_i32_638 : BitVec 32 := 0#32
  let v748 : BitVec 1 := Scalar.cmpi .slt v746 c0_i32_638
  let c0_i32_639 : BitVec 32 := 0#32
  let v749 : BitVec 1 := Scalar.cmpi .slt v745 c0_i32_639
  let v750 : BitVec 1 := Scalar.xori v748 v749
  let c0_i32_637 : BitVec 32 := 0#32
  let v747 : BitVec 1 := Scalar.cmpi .ne v746 c0_i32_637
  let v751 : BitVec 1 := Scalar.andi v750 v747
  let v752 : BitVec 32 := Scalar.addi v746 v745
  let v753 : BitVec 32 := Scalar.select v751 v752 v746
  let c1_i32_643 : BitVec 32 := 1#32
  let v754 : BitVec 32 := Scalar.muli v753 c1_i32_643
  let v755 : BitVec 32 := Scalar.addi c0_i32_644 v754
  v755.toNat
def k0_dev26 (d0 : Dev nD) : Nat :=
  let c0_i32_658 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_647 : BitVec 32 := 5#32
  let v762 : BitVec 32 := Scalar.addi v2 c5_i32_647
  let c8_i32_648 : BitVec 32 := 8#32
  let c0_i32_649 : BitVec 32 := 0#32
  let v763 : BitVec 1 := Scalar.cmpi .eq c8_i32_648 c0_i32_649
  let c1_i32_650 : BitVec 32 := 1#32
  let v764 : BitVec 32 := Scalar.select v763 c1_i32_650 c8_i32_648
  let v765 : BitVec 32 := Scalar.remsi v762 v764
  let c0_i32_652 : BitVec 32 := 0#32
  let v767 : BitVec 1 := Scalar.cmpi .slt v765 c0_i32_652
  let c0_i32_653 : BitVec 32 := 0#32
  let v768 : BitVec 1 := Scalar.cmpi .slt v764 c0_i32_653
  let v769 : BitVec 1 := Scalar.xori v767 v768
  let c0_i32_651 : BitVec 32 := 0#32
  let v766 : BitVec 1 := Scalar.cmpi .ne v765 c0_i32_651
  let v770 : BitVec 1 := Scalar.andi v769 v766
  let v771 : BitVec 32 := Scalar.addi v765 v764
  let v772 : BitVec 32 := Scalar.select v770 v771 v765
  let c1_i32_657 : BitVec 32 := 1#32
  let v773 : BitVec 32 := Scalar.muli v772 c1_i32_657
  let v774 : BitVec 32 := Scalar.addi c0_i32_658 v773
  v774.toNat
def k0_dev27 (d0 : Dev nD) : Nat :=
  let c0_i32_672 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_661 : BitVec 32 := 6#32
  let v781 : BitVec 32 := Scalar.addi v2 c6_i32_661
  let c8_i32_662 : BitVec 32 := 8#32
  let c0_i32_663 : BitVec 32 := 0#32
  let v782 : BitVec 1 := Scalar.cmpi .eq c8_i32_662 c0_i32_663
  let c1_i32_664 : BitVec 32 := 1#32
  let v783 : BitVec 32 := Scalar.select v782 c1_i32_664 c8_i32_662
  let v784 : BitVec 32 := Scalar.remsi v781 v783
  let c0_i32_666 : BitVec 32 := 0#32
  let v786 : BitVec 1 := Scalar.cmpi .slt v784 c0_i32_666
  let c0_i32_667 : BitVec 32 := 0#32
  let v787 : BitVec 1 := Scalar.cmpi .slt v783 c0_i32_667
  let v788 : BitVec 1 := Scalar.xori v786 v787
  let c0_i32_665 : BitVec 32 := 0#32
  let v785 : BitVec 1 := Scalar.cmpi .ne v784 c0_i32_665
  let v789 : BitVec 1 := Scalar.andi v788 v785
  let v790 : BitVec 32 := Scalar.addi v784 v783
  let v791 : BitVec 32 := Scalar.select v789 v790 v784
  let c1_i32_671 : BitVec 32 := 1#32
  let v792 : BitVec 32 := Scalar.muli v791 c1_i32_671
  let v793 : BitVec 32 := Scalar.addi c0_i32_672 v792
  v793.toNat
def k0_dev28 (d0 : Dev nD) : Nat :=
  let c0_i32_686 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_675 : BitVec 32 := 7#32
  let v800 : BitVec 32 := Scalar.addi v2 c7_i32_675
  let c8_i32_676 : BitVec 32 := 8#32
  let c0_i32_677 : BitVec 32 := 0#32
  let v801 : BitVec 1 := Scalar.cmpi .eq c8_i32_676 c0_i32_677
  let c1_i32_678 : BitVec 32 := 1#32
  let v802 : BitVec 32 := Scalar.select v801 c1_i32_678 c8_i32_676
  let v803 : BitVec 32 := Scalar.remsi v800 v802
  let c0_i32_680 : BitVec 32 := 0#32
  let v805 : BitVec 1 := Scalar.cmpi .slt v803 c0_i32_680
  let c0_i32_681 : BitVec 32 := 0#32
  let v806 : BitVec 1 := Scalar.cmpi .slt v802 c0_i32_681
  let v807 : BitVec 1 := Scalar.xori v805 v806
  let c0_i32_679 : BitVec 32 := 0#32
  let v804 : BitVec 1 := Scalar.cmpi .ne v803 c0_i32_679
  let v808 : BitVec 1 := Scalar.andi v807 v804
  let v809 : BitVec 32 := Scalar.addi v803 v802
  let v810 : BitVec 32 := Scalar.select v808 v809 v803
  let c1_i32_685 : BitVec 32 := 1#32
  let v811 : BitVec 32 := Scalar.muli v810 c1_i32_685
  let v812 : BitVec 32 := Scalar.addi c0_i32_686 v811
  v812.toNat
def k0_off4 (d0 : Dev nD) (c1_i32_702 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v829 : BitVec 32 := Scalar.subi v2 c1_i32_702
  let c8_i32_703 : BitVec 32 := 8#32
  let c0_i32_704 : BitVec 32 := 0#32
  let v830 : BitVec 1 := Scalar.cmpi .eq c8_i32_703 c0_i32_704
  let c1_i32_705 : BitVec 32 := 1#32
  let v831 : BitVec 32 := Scalar.select v830 c1_i32_705 c8_i32_703
  let v832 : BitVec 32 := Scalar.remsi v829 v831
  let c0_i32_707 : BitVec 32 := 0#32
  let v834 : BitVec 1 := Scalar.cmpi .slt v832 c0_i32_707
  let c0_i32_708 : BitVec 32 := 0#32
  let v835 : BitVec 1 := Scalar.cmpi .slt v831 c0_i32_708
  let v836 : BitVec 1 := Scalar.xori v834 v835
  let c0_i32_706 : BitVec 32 := 0#32
  let v833 : BitVec 1 := Scalar.cmpi .ne v832 c0_i32_706
  let v837 : BitVec 1 := Scalar.andi v836 v833
  let v838 : BitVec 32 := Scalar.addi v832 v831
  let v839 : BitVec 32 := Scalar.select v837 v838 v832
  let c512_i32_712 : BitVec 32 := 512#32
  let v846 : BitVec 32 := Scalar.muli v839 c512_i32_712
  let v847 : Index := Scalar.indexCast v846
  let c0_713 : Index := 0#32
  ![v847.toNat, 0]
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1x4096x2048 : Shape := ⟨3, ![1, 4096, 2048]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .bf16⟩
  | .local _ .vmem, ⟨0, _⟩ => ⟨S4096x4096, .bf16⟩
  | .local _ .vmem, ⟨1, _⟩ => ⟨S4096x2048, .bf16⟩
  | .local _ .vmem, ⟨2, _⟩ => ⟨S4096x2048, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Run.Plan.lean ====
/-
  The kernel's body written out as seven passes over the seven slots.

  Device `c` talks to each of the other seven devices once in every exchange, and slot `s` of every landing buffer
  belongs to one of them: the device `c` SENDS to when it names slot `s` is `c + (7 - s)`, and the device whose data
  LANDS in slot `s` of `c` is `c - (7 - s)`, both around the ring of eight. The printed body is the passes below, each
  run at the slots 6, 5, …, 0 in that order; `body_eq` states it.
-/
module

public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Run

open Idealize.ShloMosaic Idealize.ShloMosaic.TcCoe Idealize.SL.Sem
open Cert.KernelIdeal Cert.KernelIdeal.Gen

variable {F : FTy → Type} [FloatOps F]

/-! ## The devices talked to -/

/-- The device slot `s` of the barrier's signals goes to, as the program computes it. -/
def devB (c : Dev nD) : Fin 7 → Dev nD :=
  ![⟨k0_dev7 c, k0_dev7_lt c⟩, ⟨k0_dev6 c, k0_dev6_lt c⟩, ⟨k0_dev5 c, k0_dev5_lt c⟩, ⟨k0_dev4 c, k0_dev4_lt c⟩,
    ⟨k0_dev3 c, k0_dev3_lt c⟩, ⟨k0_dev2 c, k0_dev2_lt c⟩, ⟨k0_dev1 c, k0_dev1_lt c⟩]
/-- The device slot `s` of the products goes to, as the program computes it. -/
def devA (c : Dev nD) : Fin 7 → Dev nD :=
  ![⟨k0_dev14 c, k0_dev14_lt c⟩, ⟨k0_dev13 c, k0_dev13_lt c⟩, ⟨k0_dev12 c, k0_dev12_lt c⟩, ⟨k0_dev11 c, k0_dev11_lt c⟩,
    ⟨k0_dev10 c, k0_dev10_lt c⟩, ⟨k0_dev9 c, k0_dev9_lt c⟩, ⟨k0_dev8 c, k0_dev8_lt c⟩]
/-- The device slot `s` of the maxima goes to, as the program computes it. -/
def devM (c : Dev nD) : Fin 7 → Dev nD :=
  ![⟨k0_dev21 c, k0_dev21_lt c⟩, ⟨k0_dev20 c, k0_dev20_lt c⟩, ⟨k0_dev19 c, k0_dev19_lt c⟩, ⟨k0_dev18 c, k0_dev18_lt c⟩,
    ⟨k0_dev17 c, k0_dev17_lt c⟩, ⟨k0_dev16 c, k0_dev16_lt c⟩, ⟨k0_dev15 c, k0_dev15_lt c⟩]
/-- The device slot `s` of the quantised rows goes to, as the program computes it. -/
def devG (c : Dev nD) : Fin 7 → Dev nD :=
  ![⟨k0_dev28 c, k0_dev28_lt c⟩, ⟨k0_dev27 c, k0_dev27_lt c⟩, ⟨k0_dev26 c, k0_dev26_lt c⟩, ⟨k0_dev25 c, k0_dev25_lt c⟩,
    ⟨k0_dev24 c, k0_dev24_lt c⟩, ⟨k0_dev23 c, k0_dev23_lt c⟩, ⟨k0_dev22 c, k0_dev22_lt c⟩]

/-! ## The buffers, their slots, the semaphores -/

abbrev mX : Memref sig .tc .vmem S4096x512 .bf16 := Memref.whole cc0_stg0_0
abbrev mW : Memref sig .tc .vmem S512x2048 .bf16 := Memref.whole cc0_stg1_0
abbrev mO : Memref sig .tc .vmem S4096x2048 .bf16 := Memref.whole cc0_stg2_0
abbrev mS : Memref sig .tc .vmem S7x512x2048 .bf16 := Memref.whole cc0_scratch0
abbrev mA : Memref sig .tc .vmem S7x512x2048 .bf16 := Memref.whole cc0_scratch1
abbrev mG : Memref sig .tc .vmem S7x512x2048 .fp8e4m3 := Memref.whole cc0_scratch2
abbrev mQ : Memref sig .tc .vmem S512x2048 .fp8e4m3 := Memref.whole cc0_scratch3
abbrev mM : Memref sig .tc .vmem S8x128 .f32 := Memref.whole cc0_scratch4
abbrev mR : Memref sig .tc .vmem S7x8x128 .f32 := Memref.whole cc0_scratch5

theorem inb7 : ∀ s : Fin 7, ∀ a, (![s.val] : Fin 1 → Nat) a + S1.size a ≤ S7.size a := by decide
theorem inbBig : ∀ s : Fin 7, ∀ a, (![s.val, 0, 0] : Fin 3 → Nat) a + S1x512x2048.size a ≤ S7x512x2048.size a := by decide
theorem inbSmall : ∀ s : Fin 7, ∀ a, (![s.val, 0, 0] : Fin 3 → Nat) a + S1x8x128.size a ≤ S7x8x128.size a := by decide

/-- Slot `s` of a buffer of seven products. -/
abbrev rBig (s : Fin 7) : Rect S7x512x2048 := Rect.unit (s := S7x512x2048) ![s.val, 0, 0] S1x512x2048.size (inbBig s)
/-- Slot `s` of the buffer of seven maxima. -/
abbrev rSmall (s : Fin 7) : Rect S7x8x128 := Rect.unit (s := S7x8x128) ![s.val, 0, 0] S1x8x128.size (inbSmall s)

/-- Slot `s` of a buffer of seven products, as a memref of one product. -/
abbrev slotB {e : EltTy} (m : Memref sig .tc .vmem S7x512x2048 e) (s : Fin 7) : Memref sig .tc .vmem S512x2048 e :=
  (m.slice (rBig s) (fun _ => rfl)).squeeze S512x2048 squeezes_S1x512x2048_S512x2048
/-- Slot `s` of the buffer of seven maxima, as a memref of one message. -/
abbrev slotM (s : Fin 7) : Memref sig .tc .vmem S8x128 .f32 :=
  (mR.slice (rSmall s) (fun _ => rfl)).squeeze S8x128 squeezes_S1x8x128_S8x128

/-- Element `s` of an array of seven semaphores. -/
abbrev sem7 (a : DmaSems sig S7) (s : Fin 7) : DmaSem sig :=
  ((a.slice (Rect.unit (s := S7) ![s.val] S1.size (inb7 s))).squeeze S_ squeezes_S1_S_).sem

/-- The barrier semaphore. -/
abbrev barS : Sem sig := (SemArray.scalar (sig.barrier 0 rfl) : Sems sig S_).sem

theorem packedB : ∀ s : Fin 7, (rBig s).PackedRows (EltTy.packing .bf16) := by decide +kernel
theorem wordsB : ∀ s : Fin 7, (rBig s).WholeWords (EltTy.packing .bf16) := by decide +kernel
theorem wordsG : ∀ s : Fin 7, (rBig s).WholeWords (EltTy.packing .fp8e4m3) := by decide +kernel

/-! ## The passes -/

abbrev P (F : FTy → Type) := Prog (TpuEff nD τ sig (Elt F) Λ₀ .tc)

/-- A pass: `f` at the slots 6, 5, …, 0. -/
def pass (f : Fin 7 → P F PUnit) : P F PUnit := do f 6; f 5; f 4; f 3; f 2; f 1; f 0

/-- A pass that keeps what each slot returns. -/
def gather {T : Type} (g : Fin 7 → P F T) : P F (Fin 7 → T) := do
  let v6 ← g 6
  let v5 ← g 5
  let v4 ← g 4
  let v3 ← g 3
  let v2 ← g 2
  let v1 ← g 1
  let v0 ← g 0
  pure ![v0, v1, v2, v3, v4, v5, v6]

/-- Which of the seven steps handles slot `s`, counted from zero. -/
abbrev stepOf : Fin 7 → Fin 7 := ![6, 5, 4, 3, 2, 1, 0]

/-- The word a step's offsets are computed from. -/
abbrev stepW (s : Fin 7) : BitVec 32 := BitVec.ofNat 32 (1 + (stepOf s).val)

/-- The rows of `x` slot `s`'s product reads. -/
abbrev rX (c : Dev nD) (s : Fin 7) : Rect S4096x512 :=
  Rect.unit (s := S4096x512) (k0_off1 c (stepW s)) S512x512.size (k0_off1_inb c (stepOf s))
/-- The rows of `x` the device keeps for itself. -/
abbrev rXown (c : Dev nD) : Rect S4096x512 := Rect.unit (s := S4096x512) (k0_off2 c) S512x512.size (k0_off2_inb c)
/-- The whole of `w`. -/
abbrev rW : Rect S512x2048 := Rect.unit (s := S512x2048) ![0, 0] S512x2048.size inb_S512x2048_S512x2048_0_0
/-- The rows of the result slot `s` fills. -/
abbrev rO (c : Dev nD) (s : Fin 7) : Rect S4096x2048 :=
  Rect.unit (s := S4096x2048) (k0_off4 c (stepW s)) S512x2048.size (k0_off4_inb c (stepOf s))
/-- The rows of the result the device computes itself. -/
abbrev rOown (c : Dev nD) : Rect S4096x2048 := Rect.unit (s := S4096x2048) (k0_off3 c) S512x2048.size (k0_off3_inb c)

/-- Signal the barrier of slot `s`'s device. -/
abbrev stepSignal (c : Dev nD) (s : Fin 7) : P F PUnit := semSignalWord (devB c s) barS 1#32

/-- Compute slot `s`'s product and send it off. -/
abbrev stepProd (c : Dev nD) (s : Fin 7) : P F PUnit := do
  let x ← Prog.lift (.load mX (rX c s).toLoadRect (View.loadsAt_vmem h_S512x512))
  let w ← Prog.lift (.load mW rW.toLoadRect (View.loadsAt_vmem h_S512x2048))
  let _ ← Prog.lift (.load mS (rBig s).toLoadRect (View.loadsAt_vmem h_S1x512x2048))
  Prog.lift (.store mS (rBig s) (k0_pay2 (F := F) x w) Finset.univ
    (View.stores_vmem h_S1x512x2048 ((Memref.isWhole_whole cc0_scratch0).storeExact_slice rfl _ (packedB s)) (fun _ => rfl)) (.inl rfl))
  Prog.lift (.enqueueDma (slotB mS s) (.remote (Dev.tc (devA c s)) (slotB mA s) (.dma (sem7 cc0_scratch6 s)))
    (.dma (sem7 cc0_scratch7 s)) (((Memref.isWhole_whole cc0_scratch0).wordExact_slice rfl _ (wordsB s)).reshape _ _)
    (((Memref.isWhole_whole cc0_scratch1).wordExact_slice rfl _ (wordsB s)).reshape _ _) ⟨⟨rfl, Or.inl rfl⟩, trivial⟩)

/-- Wait for slot `s`'s product to be sent and for the one landing there, and read it. -/
abbrev stepTake (s : Fin 7) : P F (Vec F S1x512x2048 .bf16) := do
  Prog.lift (.waitDma2 (sem7 cc0_scratch6 s) (slotB mA s) (slotB mS s)
    (((Memref.isWhole_whole cc0_scratch1).wordExact_slice rfl _ (wordsB s)).reshape _ _)
    (((Memref.isWhole_whole cc0_scratch0).wordExact_slice rfl _ (wordsB s)).reshape _ _))
  Prog.lift (.waitDma2 (sem7 cc0_scratch7 s) (slotB mS s) (slotB mA s)
    (((Memref.isWhole_whole cc0_scratch0).wordExact_slice rfl _ (wordsB s)).reshape _ _)
    (((Memref.isWhole_whole cc0_scratch1).wordExact_slice rfl _ (wordsB s)).reshape _ _))
  Prog.lift (.load mA (rBig s).toLoadRect (View.loadsAt_vmem h_S1x512x2048))

/-- Send the device's maximum to slot `s`'s device. -/
abbrev stepMax (c : Dev nD) (s : Fin 7) : P F PUnit :=
  Prog.lift (.enqueueDma mM (.remote (Dev.tc (devM c s)) (slotM s) (.dma (sem7 cc0_scratch10 s)))
    (.dma (sem7 cc0_scratch11 s)) (Memref.isWhole_whole cc0_scratch4).wordExact ((View.wordExact_bits rfl).reshape _ _)
    ⟨⟨rfl, Or.inl rfl⟩, trivial⟩)

/-- Wait for the maximum to be sent to slot `s`'s device and for the one landing there. -/
abbrev stepMaxWait (s : Fin 7) : P F PUnit := do
  Prog.lift (.waitDma2 (sem7 cc0_scratch10 s) (slotM s) mM ((View.wordExact_bits rfl).reshape _ _)
    (Memref.isWhole_whole cc0_scratch4).wordExact)
  Prog.lift (.waitDma2 (sem7 cc0_scratch11 s) mM (slotM s) (Memref.isWhole_whole cc0_scratch4).wordExact
    ((View.wordExact_bits rfl).reshape _ _))

/-- Send the device's quantised rows to slot `s`'s device. -/
abbrev stepQ (c : Dev nD) (s : Fin 7) : P F PUnit :=
  Prog.lift (.enqueueDma mQ (.remote (Dev.tc (devG c s)) (slotB mG s) (.dma (sem7 cc0_scratch8 s)))
    (.dma (sem7 cc0_scratch9 s)) (Memref.isWhole_whole cc0_scratch3).wordExact
    (((Memref.isWhole_whole cc0_scratch2).wordExact_slice rfl _ (wordsG s)).reshape _ _) ⟨⟨rfl, Or.inl rfl⟩, trivial⟩)

/-- Wait for the quantised rows to be sent to slot `s`'s device and for those landing there; scale them into the
    result. -/
abbrev stepOut (c : Dev nD) (sc : F .f32) (s : Fin 7) : P F PUnit := do
  Prog.lift (.waitDma2 (sem7 cc0_scratch8 s) (slotB mG s) mQ
    (((Memref.isWhole_whole cc0_scratch2).wordExact_slice rfl _ (wordsG s)).reshape _ _) (Memref.isWhole_whole cc0_scratch3).wordExact)
  Prog.lift (.waitDma2 (sem7 cc0_scratch9 s) mQ (slotB mG s) (Memref.isWhole_whole cc0_scratch3).wordExact
    (((Memref.isWhole_whole cc0_scratch2).wordExact_slice rfl _ (wordsG s)).reshape _ _))
  let q ← Prog.lift (.load mG (rBig s).toLoadRect (View.loadsAt_vmem h_S1x512x2048))
  let _ ← Prog.lift (.load mO (rO c s).toLoadRect (View.loadsAt_vmem h_S512x2048))
  Prog.lift (.store mO (rO c s) (k0_pay1 sc q) Finset.univ
    (View.stores_vmem h_S512x2048 ((Memref.isWhole_whole cc0_stg2_0).storeExact_slice rfl _ (k0_off4_packedbf16 c (stepOf s))) (fun _ => rfl)) (.inl rfl))

/-- The sum of the device's own product and the seven that landed, added slot 6 first; before the last two. -/
def accHead (x : Vec F S512x512 .bf16) (w : Vec F S512x2048 .bf16) (v : Fin 7 → Vec F S1x512x2048 .bf16) : FVec F S512x2048 .f32 :=
  k0_pay13 (k0_pay12 (k0_pay11 (k0_pay10 (k0_pay9 x) w (v 6)) (v 5)) (v 4) (v 3)) (v 2)
/-- The device's rows of the product, as it sums them. -/
def accOf (x : Vec F S512x512 .bf16) (w : Vec F S512x2048 .bf16) (v : Fin 7 → Vec F S1x512x2048 .bf16) : FVec F S512x2048 .f32 :=
  k0_pay14 (accHead x w v) (v 1) (v 0)
/-- Their absolute values. -/
def absOf (x : Vec F S512x512 .bf16) (w : Vec F S512x2048 .bf16) (v : Fin 7 → Vec F S1x512x2048 .bf16) : FVec F S1x512x2048 .f32 :=
  k0_pay15 (accHead x w v) (v 1) (v 0)

/-- Write the message of the device's maximum. -/
def putMax (a : FVec F S1x512x2048 .f32) : P F PUnit := do
  let _ ← Prog.lift (.load mM (Rect.unit (s := S8x128) ![0, 0] S8x128.size inb_S8x128_S8x128_0_0).toLoadRect (View.loadsAt_vmem h_S8x128))
  Prog.lift (.store mM (Rect.unit (s := S8x128) ![0, 0] S8x128.size inb_S8x128_S8x128_0_0) (k0_pay17 a) Finset.univ
    (View.stores_vmem_bits_univ h_S8x128 rfl) (.inl rfl))

/-- Read the seven maxima, quantise the device's rows and put their scaled values in the result; the scale. -/
def putQ (c : Dev nD) (y : FVec F S512x2048 .f32) (a : FVec F S1x512x2048 .f32) : P F (F .f32) := do
  let r ← Prog.lift (.load mR (Rect.unit (s := S7x8x128) ![0, 0, 0] S7x8x128.size inb_S7x8x128_S7x8x128_0_0_0).toLoadRect (View.loadsAt_vmem h_S7x8x128))
  let _ ← Prog.lift (.load mQ rW.toLoadRect (View.loadsAt_vmem h_S512x2048))
  Prog.lift (.store mQ rW (k0_pay20 y (k0_pay16 a) r) Finset.univ
    (View.stores_vmem h_S512x2048 ((Memref.isWhole_whole cc0_scratch3).storeExact_slice rfl _ packedfp8e4m3_S512x2048_S512x2048_0_0) (fun _ => rfl)) (.inl rfl))
  let _ ← Prog.lift (.load mO (rOown c).toLoadRect (View.loadsAt_vmem h_S512x2048))
  Prog.lift (.store mO (rOown c) (k0_pay21 y (k0_pay16 a) r) Finset.univ
    (View.stores_vmem h_S512x2048 ((Memref.isWhole_whole cc0_stg2_0).storeExact_slice rfl _ (k0_off3_packedbf16 c)) (fun _ => rfl)) (.inl rfl))
  pure (k0_pay18 (k0_pay16 a) r)

/-- The body after the device has read its own number. -/
def bodyOn (c : Dev nD) : P F PUnit := do
  pass (stepSignal c)
  semWaitWord barS 7#32
  pass (stepProd c)
  let x ← Prog.lift (.load mX (rXown c).toLoadRect (View.loadsAt_vmem h_S512x512))
  let w ← Prog.lift (.load mW rW.toLoadRect (View.loadsAt_vmem h_S512x2048))
  let v ← gather stepTake
  putMax (absOf x w v)
  pass (stepMax c)
  pass stepMaxWait
  let sc ← putQ c (accOf x w v) (absOf x w v)
  pass (stepQ c)
  pass (stepOut c sc)

set_option maxRecDepth 65536 in
set_option maxHeartbeats 4000000 in
/-- The printed body is the passes, after the device has read its own number. -/
theorem body_eq :
    (cc0__ar_body (F := F) mX (hstage0_0 0) mW (hstage0_1 0) mO (hstage0_2 0) mS (Memref.isWhole_whole _) mA (Memref.isWhole_whole _)
      mG (Memref.isWhole_whole _) mQ (Memref.isWhole_whole _) mM (Memref.isWhole_whole _) mR (Memref.isWhole_whole _)
      cc0_scratch6 cc0_scratch7 cc0_scratch8 cc0_scratch9 cc0_scratch10 cc0_scratch11)
      = (Prog.lift .deviceId >>= fun c => bodyOn c : P F PUnit) := by
  chain_rfl

end Cert.Run

end
-- ==== Proof.Run.Ring.lean ====
/-
  The ring of eight devices and the seven slots: which device slot `s` is sent to, which device's data lands in it, and
  that the program's own arithmetic on device numbers and row offsets computes exactly these.
-/
module

public import proofs.«01_k».proof.Proof.Run.Plan

@[expose] public section

noncomputable section

namespace Cert.Run

open Idealize.ShloMosaic Idealize.ShloMosaic.TcCoe Idealize.SL Idealize.SL.RA Idealize.SL.BI Idealize.SL.Sem
open Idealize.SL.BI.BIBase Idealize.SL.BI.Laws Idealize.SL.ProofMode
open scoped Idealize.SL.BI
open Cert.KernelIdeal Cert.KernelIdeal.Gen

set_option backward.proofsInPublic true in
/-- The device that device `c`'s slot `s` goes to. -/
def dst (c : Dev nD) (s : Fin 7) : Dev nD := ⟨(c.val + (7 - s.val)) % 8, Nat.mod_lt _ (by decide)⟩
set_option backward.proofsInPublic true in
/-- The device whose data lands in device `c`'s slot `s`. -/
def src (c : Dev nD) (s : Fin 7) : Dev nD := ⟨(c.val + (1 + s.val)) % 8, Nat.mod_lt _ (by decide)⟩

theorem src_dst : ∀ (c : Dev nD) (s : Fin 7), src (dst c s) s = c := by decide +kernel
theorem dst_src : ∀ (c : Dev nD) (s : Fin 7), dst (src c s) s = c := by decide +kernel
/-- Slot `6 - s` of the device whose data lands in slot `s` is the one that comes back. -/
theorem dst_rev : ∀ (c : Dev nD) (s : Fin 7), dst c s.rev = src c s := by decide +kernel
theorem src_rev : ∀ (c : Dev nD) (s : Fin 7), src c s.rev = dst c s := by decide +kernel
theorem src_ne : ∀ (c : Dev nD) (s : Fin 7), src c s ≠ c := by decide +kernel
theorem src_inj : ∀ (c : Dev nD) (s s' : Fin 7), src c s = src c s' → s = s' := by decide +kernel
theorem src_surj : ∀ c d : Dev nD, d ≠ c → ∃ s, src c s = d := by decide +kernel

/-- Slot `s`'s exchange, all devices at once. -/
def ring (s : Fin 7) : Dev nD ≃ Dev nD := ⟨(dst · s), (src · s), (src_dst · s), (dst_src · s)⟩

theorem devB_eq : ∀ (c : Dev nD) (s : Fin 7), devB c s = dst c s := by decide +kernel
theorem devA_eq : ∀ (c : Dev nD) (s : Fin 7), devA c s = dst c s := by decide +kernel
theorem devM_eq : ∀ (c : Dev nD) (s : Fin 7), devM c s = dst c s := by decide +kernel
theorem devG_eq : ∀ (c : Dev nD) (s : Fin 7), devG c s = dst c s := by decide +kernel

theorem off1_eq : ∀ (c : Dev nD) (s : Fin 7), k0_off1 c (stepW s) = ![512 * (dst c s).val, 0] := by decide +kernel
theorem off4_eq : ∀ (c : Dev nD) (s : Fin 7), k0_off4 c (stepW s) = ![512 * (src c s).val, 0] := by decide +kernel

/-- All devices, one by one from `c`'s point of view: itself and the seven whose data lands with it. -/
theorem bigSep_dev {M : Type} [URA M] (Φ : Dev nD → sProp M) (c : Dev nD) :
    bigSep Finset.univ Φ = iprop(Φ c ∗ bigSep Finset.univ fun s : Fin 7 => Φ (src c s)) := by
  have h : (Finset.univ : Finset (Dev nD)).erase c = Finset.univ.map ⟨src c, fun s s' => src_inj c s s'⟩ := by
    ext d
    rw [Finset.mem_erase, Finset.mem_map]
    refine ⟨fun hd => ?_, ?_⟩
    · obtain ⟨s, hs⟩ := src_surj c d hd.1
      exact ⟨s, Finset.mem_univ _, hs⟩
    · rintro ⟨s, -, rfl⟩
      exact ⟨src_ne c s, Finset.mem_univ _⟩
  rw [bigSep_univ_at _ c, h, bigSep_map]
  rfl

end Cert.Run

end
-- ==== Proof.Run.Ops.lean ====
/-
  One lemma per kind of step the kernel takes, stated on memrefs OWNED at a value: a load of part of a memref, a load
  and a store of a slot or of a whole buffer, and a pass over the seven slots.
-/
module

public import proofs.«01_k».proof.Proof.Run.Ring
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.Run

open Idealize.ShloMosaic Idealize.ShloMosaic.TcCoe Idealize.SL Idealize.SL.RA Idealize.SL.BI Idealize.SL.Sem
open Idealize.SL.BI.BIBase Idealize.SL.BI.Laws Idealize.SL.ProofMode
open scoped Idealize.SL.BI
open Idealize.ShloMosaic.Rounds
open Cert.KernelIdeal Cert.KernelIdeal.Gen

variable {F : FTy → Type} [FloatOps F]

/-! ## The resources -/

/-- The exchange's ghost state: a cell's duties are numbered by the seven slots. -/
abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- Device `c` runs `p`, ending in `Q`. -/
abbrev WP (c : Dev nD) {α : Type} (p : P F α) (Q : α → sProp 𝕄) : sProp 𝕄 :=
  wp frame (wpE (defs₀ (F := F)) 𝒱₀ (c : Thread nD τ) none) Set.univ p Q

/-- Device `c` holds share `q` of its memref `m`, which reads as `X`. -/
abbrev has (c : Dev nD) {s : Shape} {e : EltTy} (m : Memref sig .tc .vmem s e) (q : PosShare TreeShare) (X : s.Idx → Elt F e) : sProp 𝕄 :=
  owns (Ix := Unit) (Name := ℕ) (U := UU) (Lvl := ℕ) (c : Thread nD τ) m q X

/-- Device `c` holds its memref `m` outright, at some value. -/
abbrev some' (c : Dev nD) {s : Shape} {e : EltTy} (m : Memref sig .tc .vmem s e) : sProp 𝕄 :=
  iprop(∃ X : s.Idx → Elt F e, has c m fullShare X)

variable (c : Dev nD) {s : Shape} {e : EltTy} {m : Memref sig .tc .vmem s e} {α : Type}

/-- A memref and its squeeze are owned together, at the same value in the two shapes. -/
theorem has_squeeze {s' : Shape} (h : s.Squeezes s') (hc : s.ShapeCasts s') (q : PosShare TreeShare) (X : s.Idx → Elt F e) :
    (has c (m.squeeze s' h) q (shapeCast s' X hc) : sProp 𝕄) = has c m q X := by
  have hread : ∀ f, (m.squeeze s' h).view.read (Elt F) f = fun j => m.view.read (Elt F) f (Shape.reshapeEquiv h.numel_eq j) := fun f => rfl
  have hset : (m.squeeze s' h).view.set = m.view.set := View.set_reshape _ _
  unfold has owns
  have h₁ : iprop(∃ f, ⌜(m.squeeze s' h).view.read (Elt F) f = shapeCast s' X hc⌝
        ∗ ((m.squeeze s' h).view.loc (c : Thread nD τ) ↦[(m.squeeze s' h).view.set]{q} f))
      ⊢ (iprop(∃ f, ⌜m.view.read (Elt F) f = X⌝ ∗ (m.view.loc (c : Thread nD τ) ↦[m.view.set]{q} f)) : sProp 𝕄) := by
    iintro ⟨%f, %hf, H⟩
    iexists f
    rw [hset]
    isplitr
    · ipureintro
      rw [hread] at hf
      refine funext fun i => ?_
      have := congrFun hf ((Shape.reshapeEquiv h.numel_eq).symm i)
      rw [Equiv.apply_symm_apply] at this
      rw [this]
      show X (Shape.reshapeEquiv _ _) = X i
      rw [show Shape.reshapeEquiv _ ((Shape.reshapeEquiv h.numel_eq).symm i) = i from Equiv.apply_symm_apply _ i]
    · iexact H
  have h₂ : (iprop(∃ f, ⌜m.view.read (Elt F) f = X⌝ ∗ (m.view.loc (c : Thread nD τ) ↦[m.view.set]{q} f)) : sProp 𝕄)
      ⊢ iprop(∃ f, ⌜(m.squeeze s' h).view.read (Elt F) f = shapeCast s' X hc⌝
        ∗ ((m.squeeze s' h).view.loc (c : Thread nD τ) ↦[(m.squeeze s' h).view.set]{q} f)) := by
    iintro ⟨%f, %hf, H⟩
    iexists f
    rw [hset]
    isplitr
    · ipureintro
      rw [hread, hf]
      rfl
    · iexact H
  exact BI.equiv_iff.mp ⟨h₁, h₂⟩

/-- Loading part of an owned memref. -/
theorem wp_load_has {r : Rect s} {hl : m.view.LoadsAt r.toLoadRect} {Q : α → sProp 𝕄} {k : (r.shape.Idx → Elt F e) → P F α} (q : PosShare TreeShare) (X : s.Idx → Elt F e) :
    (has c m q X : sProp 𝕄) ⊢ iprop((has c m q X -∗ WP c (k fun j => X (r.emb j)) Q) -∗ WP c (.op (.load m r.toLoadRect hl) k) Q) := by
  unfold has owns
  iintro ⟨%f, %hf, H⟩ Hk
  iapply (wp_load 𝒱₀ (c : Thread nD τ) none Set.univ (m := m) (View.setOn_subset_set _ _)) $$ H
  iintro H
  have hv : m.view.readAt (Elt F) r.toLoadRect f = fun j => X (r.emb j) := by rw [← hf]; rfl
  rw [hv]
  iapply Hk
  iexists f
  isplitr; · ipureintro; exact hf
  iexact H

/-- The same, the value loaded given by the caller. -/
theorem wp_load_as {r : Rect s} {hl : m.view.LoadsAt r.toLoadRect} {Q : α → sProp 𝕄} {k : (r.shape.Idx → Elt F e) → P F α} (q : PosShare TreeShare) (X : s.Idx → Elt F e)
    (v : r.shape.Idx → Elt F e) (hv : ∀ j, X (r.emb j) = v j) :
    (has c m q X : sProp 𝕄) ⊢ iprop((has c m q X -∗ WP c (k v) Q) -∗ WP c (.op (.load m r.toLoadRect hl) k) Q) := by
  have h : (fun j => X (r.emb j)) = v := funext hv
  subst h
  exact wp_load_has c q X

/-- Loading an owned slot. -/
theorem wp_load_slot {r : Rect s} (hr : ∀ a, r.stride a = 1) {hl : m.view.LoadsAt r.toLoadRect} {Q : α → sProp 𝕄} {k : (r.shape.Idx → Elt F e) → P F α}
    (q : PosShare TreeShare) (X : r.shape.Idx → Elt F e) :
    (has c (m.slice r hr) q X : sProp 𝕄) ⊢ iprop((has c (m.slice r hr) q X -∗ WP c (k X) Q) -∗ WP c (.op (.load m r.toLoadRect hl) k) Q) := by
  unfold has owns
  iintro ⟨%f, %hf, H⟩ Hk
  iapply (wp_load_rect 𝒱₀ (c : Thread nD τ) none Set.univ (m := m) (r := r) (S := (m.slice r hr).view.set) (Finset.Subset.refl _)) $$ H
  iintro H
  have hv : (m.access r).read (Elt F) f = X := hf
  rw [hv]
  iapply Hk
  iexists f
  isplitr; · ipureintro; exact hf
  iexact H

/-- Storing over an owned slot. -/
theorem wp_store_slot {r : Rect s} (hr : ∀ a, r.stride a = 1) {w : r.shape.Idx → Elt F e} {hx : (m.access r).Stores Finset.univ}
    {hm : (Finset.univ : Finset r.shape.Idx) = Finset.univ ∨ ∀ a, r.stride a = 1} {Q : α → sProp 𝕄} {k : PUnit → P F α} (X : r.shape.Idx → Elt F e) :
    (has c (m.slice r hr) fullShare X : sProp 𝕄)
      ⊢ iprop((has c (m.slice r hr) fullShare w -∗ WP c (k ⟨⟩) Q) -∗ WP c (.op (.store m r w Finset.univ hx hm) k) Q) := by
  unfold has owns
  iintro ⟨%f, %hf, H⟩ Hk
  iapply (wp_store 𝒱₀ (c : Thread nD τ) none Set.univ (m := m) (r := r) (S := (m.slice r hr).view.set) (Finset.Subset.refl _)) $$ H
  iintro H
  iapply Hk
  iexists ((m.slice r hr).view.write (Elt F) f w Finset.univ)
  isplitr
  · ipureintro
    exact View.read_write_univ _ _
  iexact H

/-- The same, the value stored named by the caller. -/
theorem wp_store_as {r : Rect s} (hr : ∀ a, r.stride a = 1) {w : r.shape.Idx → Elt F e} {hx : (m.access r).Stores Finset.univ}
    {hm : (Finset.univ : Finset r.shape.Idx) = Finset.univ ∨ ∀ a, r.stride a = 1} {Q : α → sProp 𝕄} {k : PUnit → P F α} (X v : r.shape.Idx → Elt F e)
    (hw : w = v) :
    (has c (m.slice r hr) fullShare X : sProp 𝕄)
      ⊢ iprop((has c (m.slice r hr) fullShare v -∗ WP c (k ⟨⟩) Q) -∗ WP c (.op (.store m r w Finset.univ hx hm) k) Q) := by
  subst hw
  exact wp_store_slot c hr X

/-- A pass: every slot's step takes `A s` to `B s` and moves the state `T` one down. -/
theorem wp_pass (R : sProp 𝕄) [BI.Persistent R] (A B : Fin 7 → sProp 𝕄) (T : ℕ → sProp 𝕄) (f : Fin 7 → P F PUnit)
    (h : ∀ (s : Fin 7) (K : PUnit → sProp 𝕄), iprop(R ∗ A s ∗ T (s.val + 1) ∗ ((B s ∗ T s.val) -∗ K ⟨⟩)) ⊢ WP c (f s) K)
    (K : PUnit → sProp 𝕄) :
    iprop(R ∗ bigSep Finset.univ A ∗ T 7 ∗ ((bigSep Finset.univ B ∗ T 0) -∗ K ⟨⟩)) ⊢ WP c (pass f) K := by
  have hl : ∀ Φ : Fin 7 → sProp 𝕄, bigSep Finset.univ Φ = iprop(Φ 0 ∗ Φ 1 ∗ Φ 2 ∗ Φ 3 ∗ Φ 4 ∗ Φ 5 ∗ Φ 6) := fun Φ => by
    rw [bigSep_univ_eq_bigSepL [0, 1, 2, 3, 4, 5, 6] (by decide) (by decide)]; rfl
  rw [hl, hl]
  have hs : ∀ (s : Fin 7) (a b : ℕ) (ha : a = s.val + 1) (hb : b = s.val) (K : PUnit → sProp 𝕄),
      iprop(R ∗ A s ∗ T a ∗ ((B s ∗ T b) -∗ K ⟨⟩)) ⊢ WP c (f s) K := by rintro s a b rfl rfl K; exact h s K
  unfold pass
  simp only [WP, wp_bind]
  iintro ⟨#HR, ⟨A0, A1, A2, A3, A4, A5, A6⟩, HT, Hk⟩
  iapply (hs 6 7 6 rfl rfl _)
  isplitr; · iexact HR
  isplitl [A6]; · iexact A6
  isplitl [HT]; · iexact HT
  iintro ⟨B6, HT⟩
  iapply (hs 5 6 5 rfl rfl _)
  isplitr; · iexact HR
  isplitl [A5]; · iexact A5
  isplitl [HT]; · iexact HT
  iintro ⟨B5, HT⟩
  iapply (hs 4 5 4 rfl rfl _)
  isplitr; · iexact HR
  isplitl [A4]; · iexact A4
  isplitl [HT]; · iexact HT
  iintro ⟨B4, HT⟩
  iapply (hs 3 4 3 rfl rfl _)
  isplitr; · iexact HR
  isplitl [A3]; · iexact A3
  isplitl [HT]; · iexact HT
  iintro ⟨B3, HT⟩
  iapply (hs 2 3 2 rfl rfl _)
  isplitr; · iexact HR
  isplitl [A2]; · iexact A2
  isplitl [HT]; · iexact HT
  iintro ⟨B2, HT⟩
  iapply (hs 1 2 1 rfl rfl _)
  isplitr; · iexact HR
  isplitl [A1]; · iexact A1
  isplitl [HT]; · iexact HT
  iintro ⟨B1, HT⟩
  iapply (hs 0 1 0 rfl rfl _)
  isplitr; · iexact HR
  isplitl [A0]; · iexact A0
  isplitl [HT]; · iexact HT
  iintro ⟨B0, HT⟩
  iapply Hk
  iframe

/-- A pass that keeps what each slot returns: every slot's step takes `A s` to `B s` and returns `V s`, under a state `T`
    it gives back. -/
theorem wp_gather {V : Type} (R : sProp 𝕄) [BI.Persistent R] (A B : Fin 7 → sProp 𝕄) (T : sProp 𝕄) (v : Fin 7 → V) (g : Fin 7 → P F V)
    (h : ∀ (s : Fin 7) (K : V → sProp 𝕄), iprop(R ∗ A s ∗ T ∗ ((B s ∗ T) -∗ K (v s))) ⊢ WP c (g s) K)
    (K : (Fin 7 → V) → sProp 𝕄) :
    iprop(R ∗ bigSep Finset.univ A ∗ T ∗ ((bigSep Finset.univ B ∗ T) -∗ K v)) ⊢ WP c (gather g) K := by
  have hl : ∀ Φ : Fin 7 → sProp 𝕄, bigSep Finset.univ Φ = iprop(Φ 0 ∗ Φ 1 ∗ Φ 2 ∗ Φ 3 ∗ Φ 4 ∗ Φ 5 ∗ Φ 6) := fun Φ => by
    rw [bigSep_univ_eq_bigSepL [0, 1, 2, 3, 4, 5, 6] (by decide) (by decide)]; rfl
  rw [hl, hl]
  have hv : v = ![v 0, v 1, v 2, v 3, v 4, v 5, v 6] := by funext s; fin_cases s <;> rfl
  unfold gather
  simp only [WP, wp_bind]
  iintro ⟨#HR, ⟨A0, A1, A2, A3, A4, A5, A6⟩, HT, Hk⟩
  iapply (h 6 _)
  isplitr; · iexact HR
  isplitl [A6]; · iexact A6
  isplitl [HT]; · iexact HT
  iintro ⟨B6, HT⟩
  iapply (h 5 _)
  isplitr; · iexact HR
  isplitl [A5]; · iexact A5
  isplitl [HT]; · iexact HT
  iintro ⟨B5, HT⟩
  iapply (h 4 _)
  isplitr; · iexact HR
  isplitl [A4]; · iexact A4
  isplitl [HT]; · iexact HT
  iintro ⟨B4, HT⟩
  iapply (h 3 _)
  isplitr; · iexact HR
  isplitl [A3]; · iexact A3
  isplitl [HT]; · iexact HT
  iintro ⟨B3, HT⟩
  iapply (h 2 _)
  isplitr; · iexact HR
  isplitl [A2]; · iexact A2
  isplitl [HT]; · iexact HT
  iintro ⟨B2, HT⟩
  iapply (h 1 _)
  isplitr; · iexact HR
  isplitl [A1]; · iexact A1
  isplitl [HT]; · iexact HT
  iintro ⟨B1, HT⟩
  iapply (h 0 _)
  isplitr; · iexact HR
  isplitl [A0]; · iexact A0
  isplitl [HT]; · iexact HT
  iintro ⟨B0, HT⟩
  rw [Prog.pure_eq_ret, wp_ret, ← hv]
  imodintro
  iapply Hk
  iframe

end Cert.Run

end
-- ==== Proof.Run.Contents.lean ====
/-
  What every buffer of the run holds, as a function of the launch memory: the products a device sends, the sum it
  forms, the maxima it gathers, the scale, the quantised rows, the result.
-/
module

public import proofs.«01_k».proof.Proof.Run.Ops
public import Idealize.ShloMosaic.Lib.ValueIdx

@[expose] public section

noncomputable section

namespace Cert.Run

open Idealize.ShloMosaic Idealize.ShloMosaic.TcCoe Idealize.SL Idealize.SL.RA Idealize.SL.BI Idealize.SL.Sem
open Idealize.SL.BI.BIBase Idealize.SL.BI.Laws Idealize.SL.ProofMode
open scoped Idealize.SL.BI
open Cert.KernelIdeal Cert.KernelIdeal.Gen

variable {F : FTy → Type} [FloatOps F]
variable (m : (ℓ : Loc nD τ sig) → Buf (Elt F) ℓ)

theorem inbX : ∀ d : Dev nD, ∀ a, (![512 * d.val, 0] : Fin 2 → Nat) a + S512x512.size a ≤ S4096x512.size a := by decide +kernel
theorem inbO : ∀ d : Dev nD, ∀ a, (![512 * d.val, 0] : Fin 2 → Nat) a + S512x2048.size a ≤ S4096x2048.size a := by decide +kernel

/-- The rows of `x` that belong to device `d`. -/
abbrev rowsX (d : Dev nD) : Rect S4096x512 := Rect.unit (s := S4096x512) ![512 * d.val, 0] S512x512.size (inbX d)
/-- The rows of the result that belong to device `d`. -/
abbrev rowsO (d : Dev nD) : Rect S4096x2048 := Rect.unit (s := S4096x2048) ![512 * d.val, 0] S512x2048.size (inbO d)

theorem rX_eq (c : Dev nD) (s : Fin 7) : rX c s = rowsX (dst c s) := Rect.unit_congr (off1_eq c s) _ _
theorem rXown_eq (c : Dev nD) : rXown c = rowsX c := Rect.unit_congr (k0_off2_eq c) _ _
theorem rO_eq (c : Dev nD) (s : Fin 7) : rO c s = rowsO (src c s) := Rect.unit_congr (off4_eq c s) _ _
theorem rOown_eq (c : Dev nD) : rOown c = rowsO c := Rect.unit_congr (k0_off3_eq c) _ _

/-- Device `c`'s columns of `x`, as launched. -/
def xstg (c : Dev nD) : Vec F S4096x512 .bf16 := (win0_0.blk (0 : Fin 1)).view.read (Elt F) (m ((c : Thread nD τ).loc main_arg0))
/-- Device `c`'s rows of `w`, as launched. -/
def wstg (c : Dev nD) : Vec F S512x2048 .bf16 := (win0_1.blk (0 : Fin 1)).view.read (Elt F) (m ((c : Thread nD τ).loc main_arg1))

/-- Device `d`'s columns of `x` in the rows that belong to device `c`. -/
def xrows (d c : Dev nD) : Vec F S512x512 .bf16 := fun j => xstg m d ((rowsX c).emb j)

/-- Device `d`'s share of the rows that belong to device `c`. -/
def part (d c : Dev nD) : Vec F S1x512x2048 .bf16 := k0_pay2 (xrows m d c) (wstg m d)

/-- Device `c`'s rows of the product. -/
def accv (c : Dev nD) : FVec F S512x2048 .f32 :=
  accOf (xrows m c c) (wstg m c) (fun s => part m (src c s) c)
/-- Their absolute values. -/
def absv (c : Dev nD) : FVec F S1x512x2048 .f32 :=
  absOf (xrows m c c) (wstg m c) (fun s => part m (src c s) c)

/-- The message of device `c`'s maximum. -/
def amsg (c : Dev nD) : Vec F S8x128 .f32 := k0_pay17 (absv m c)

/-- Shape of one message inside the buffer of seven. -/
theorem casts_msg : S8x128.ShapeCasts S1x8x128 := by decide
/-- Shape of one device's rows inside a buffer of seven. -/
theorem casts_rows : S512x2048.ShapeCasts S1x512x2048 := shapeCasts_S512x2048_S1x512x2048

/-- The seven maxima that land at device `c`. -/
def amBuf (c : Dev nD) : Vec F S7x8x128 .f32 := fun i => amsg m (src c (i 0)) (ValueIdx.ix2 (i 1) (i 2))

/-- The scale device `c` quantises with. -/
def scale (c : Dev nD) : F .f32 := k0_pay18 (k0_pay16 (absv m c)) (amBuf m c)

/-- Device `c`'s rows, quantised. -/
def qmsg (c : Dev nD) : Vec F S512x2048 .fp8e4m3 := k0_pay20 (accv m c) (k0_pay16 (absv m c)) (amBuf m c)

/-- Device `d`'s rows of the result, as device `c` writes them. -/
def rowsAt (c d : Dev nD) : Vec F S512x2048 .bf16 := k0_pay1 (scale m c) (shapeCast S1x512x2048 (qmsg m d) casts_rows)

/-- The result, on device `c`. -/
def outAt (c : Dev nD) : Vec F S4096x2048 .bf16 := fun i =>
  rowsAt m c ⟨(i 0).val / 512, by have : (i 0).val < 4096 := (i 0).isLt; show _ < 8; omega⟩
    (ValueIdx.ix2 (⟨(i 0).val % 512, Nat.mod_lt _ (by decide)⟩ : Fin 512) (i 1))

/-- A message is one value repeated. -/
theorem amsg_const (d : Dev nD) (i j : S8x128.Idx) : amsg m d i = amsg m d j := by
  unfold amsg k0_pay17
  generalize k0_pay16 (absv m d) = z
  rfl

/-- A message is one value repeated, so the seven maxima are the seven messages. -/
theorem amBuf_slot (c : Dev nD) (s : Fin 7) :
    (fun j => amBuf m c ((rSmall s).emb j)) = shapeCast S1x8x128 (amsg m (src c s)) casts_msg := by
  funext j
  have h : (rSmall s).emb j 0 = s := Fin.ext (by
    have : (j 0).val < 1 := (j 0).isLt
    rw [Rect.emb_apply]
    show s.val + 1 * (j 0).val = s.val
    omega)
  show amsg m (src c ((rSmall s).emb j 0)) _ = _
  rw [h]
  exact amsg_const m (src c s) _ _

/-- The result's rows that belong to device `d`. -/
theorem outAt_rows (c d : Dev nD) : (fun j => outAt m c ((rowsO d).emb j)) = rowsAt m c d := by
  funext j
  have hj : (j 0).val < 512 := (j 0).isLt
  have hd : d.val < 8 := d.isLt
  have h0 : ((rowsO d).emb j 0).val = 512 * d.val + (j 0).val := by
    rw [Rect.emb_apply]; show 512 * d.val + 1 * (j 0).val = _; omega
  have h1 : ((rowsO d).emb j 1).val = (j 1).val := by
    rw [Rect.emb_apply]; show 0 + 1 * (j 1).val = _; omega
  show rowsAt m c ⟨((rowsO d).emb j 0).val / 512, _⟩ (ValueIdx.ix2 ⟨((rowsO d).emb j 0).val % 512, _⟩ ((rowsO d).emb j 1)) = _
  have e1 : (⟨((rowsO d).emb j 0).val / 512, by rw [h0]; show _ < 8; omega⟩ : Dev nD) = d := Fin.ext (by show _ / 512 = _; rw [h0]; omega)
  have e2 : ValueIdx.ix2 (⟨((rowsO d).emb j 0).val % 512, Nat.mod_lt _ (by decide)⟩ : Fin 512) ((rowsO d).emb j 1) = j := by
    funext a
    fin_cases a
    · exact Fin.ext (by show ((rowsO d).emb j 0).val % 512 = _; rw [h0]; show _ = (j 0).val; omega)
    · exact Fin.ext h1
  rw [e1]
  exact congrArg _ e2

/-- What a device writes at its own rows is what the others write there from what it sends. -/
theorem own_rows (c : Dev nD) : k0_pay21 (accv m c) (k0_pay16 (absv m c)) (amBuf m c) = rowsAt m c c := by
  unfold rowsAt qmsg scale k0_pay21 k0_pay1 k0_pay20
  simp only [shapeCast_self, shapeCast_shapeCast]

end Cert.Run

end
-- ==== Proof.Run.Proto.lean ====
/-
  The exchange's protocol: its cells (each device's barrier and its forty-two transfer semaphores, one per array and
  slot), what each unit of each cell hands over, what each device owes, and the levels that order the waits.
-/
module

public import proofs.«01_k».proof.Proof.Run.Contents
public import Idealize.ShloMosaic.Lib.MemrefSat

@[expose] public section

noncomputable section

namespace Cert.Run

open Idealize.ShloMosaic Idealize.ShloMosaic.TcCoe Idealize.SL Idealize.SL.RA Idealize.SL.BI Idealize.SL.Sem
open Idealize.SL.BI.BIBase Idealize.SL.BI.Laws Idealize.SL.ProofMode
open scoped Idealize.SL.BI
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The cells -/

/-- The six arrays of transfer semaphores: products sent and landed, quantised rows sent and landed, maxima sent and
    landed. -/
abbrev arr : Fin 6 → DmaSems sig S7 :=
  ![cc0_scratch6, cc0_scratch7, cc0_scratch8, cc0_scratch9, cc0_scratch10, cc0_scratch11]

/-- Slot `s` of array `j`. -/
abbrev dsem (j : Fin 6) (s : Fin 7) : DmaSem sig := sem7 (arr j) s

theorem dsem_val : ∀ j s, (dsem j s).val = 3 + 7 * j.val + s.val := by decide +kernel

/-- The array a transfer semaphore belongs to. -/
def arrOf (q : DmaSem sig) : Fin 6 := ⟨(q.val - 3) / 7 % 6, Nat.mod_lt _ (by decide)⟩
/-- Its slot there. -/
def slotOf (q : DmaSem sig) : Fin 7 := ⟨(q.val - 3) % 7, Nat.mod_lt _ (by decide)⟩

theorem arrOf_dsem (j : Fin 6) (s : Fin 7) : arrOf (dsem j s) = j :=
  Fin.ext (by show ((dsem j s).val - 3) / 7 % 6 = j.val; rw [dsem_val]; have := j.isLt; have := s.isLt; omega)
theorem slotOf_dsem (j : Fin 6) (s : Fin 7) : slotOf (dsem j s) = s :=
  Fin.ext (by show ((dsem j s).val - 3) % 7 = s.val; rw [dsem_val]; have := j.isLt; have := s.isLt; omega)

abbrev barCell (c : Dev nD) : GSem nD τ sig := ((c : Thread nD τ), .reg barS)
abbrev dcell (c : Dev nD) (j : Fin 6) (s : Fin 7) : GSem nD τ sig := ((c : Thread nD τ), .dma (dsem j s))

/-- The kernel's own semaphores, as the launch indexes them. -/
abbrev osem (p : Fin 6 × Fin 7) : SemLoc sig := .dma (dsem p.1 p.2)
/-- All the protocol's cells of a device: the barrier and those. -/
abbrev csem : Option (Fin 6 × Fin 7) → SemLoc sig
  | none => .reg barS
  | some p => osem p
abbrev kcell (ck : Dev nD × Option (Fin 6 × Fin 7)) : GSem nD τ sig := ((ck.1 : Thread nD τ), csem ck.2)

theorem osem_inj {p p' : Fin 6 × Fin 7} (h : osem p = osem p') : p = p' := by
  have h' : dsem p.1 p.2 = dsem p'.1 p'.2 := by injection h
  refine Prod.ext ?_ ?_
  · rw [← arrOf_dsem p.1 p.2, h', arrOf_dsem]
  · rw [← slotOf_dsem p.1 p.2, h', slotOf_dsem]

theorem csem_inj {p p' : Option (Fin 6 × Fin 7)} (h : csem p = csem p') : p = p' := by
  rcases p with _ | p <;> rcases p' with _ | p'
  · rfl
  · exact absurd h (fun h => by cases h)
  · exact absurd h (fun h => by cases h)
  · rw [osem_inj h]

theorem kcell_injective : Function.Injective kcell := by
  rintro ⟨c, k⟩ ⟨c', k'⟩ h
  have h1 : c = c' := congrArg (fun g : GSem nD τ sig => g.1.1) h
  subst h1
  have h2 : k = k' := csem_inj (congrArg Prod.snd h)
  rw [h2]

/-! ## The slots and the shares -/

/-- Slot `s` of a buffer of seven products. -/
abbrev cutB {e : EltTy} (b : Memref sig .tc .vmem S7x512x2048 e) (s : Fin 7) : Memref sig .tc .vmem S1x512x2048 e := b.slice (rBig s) (fun _ => rfl)
/-- Slot `s` of the buffer of seven maxima. -/
abbrev cutM (s : Fin 7) : Memref sig .tc .vmem S1x8x128 .f32 := mR.slice (rSmall s) (fun _ => rfl)
/-- The rows of the result that belong to device `d`. -/
abbrev cutO (d : Dev nD) : Memref sig .tc .vmem S512x2048 .bf16 := mO.slice (rowsO d) (fun _ => rfl)

/-- What is left of a full share after `n` halvings. -/
def rest : ℕ → PosShare TreeShare
  | 0 => fullShare
  | n + 1 => (rest n).right

/-- The share of a buffer lent to slot `s`'s transfer. -/
def sh (s : Fin 7) : PosShare TreeShare := if s.val < 6 then (rest s.val).left else rest 6

/-- A buffer's full share is the seven shares. -/
theorem has_shares (c : Dev nD) {s : Shape} {e : EltTy} (b : Memref sig .tc .vmem s e) (X : s.Idx → Elt F e) :
    (has c b fullShare X : sProp 𝕄) = bigSep Finset.univ fun s : Fin 7 => has c b (sh s) X := by
  have h : ∀ n, (has c b (rest n) X : sProp 𝕄) = iprop(has c b (rest n).left X ∗ has c b (rest (n + 1)) X) := fun n =>
    BI.equiv_iff.mp ⟨(owns_halves (c : Thread nD τ) b (rest n) X).1, (owns_halves (c : Thread nD τ) b (rest n) X).2⟩
  rw [bigSep_univ_eq_bigSepL [0, 1, 2, 3, 4, 5, 6] (by decide) (by decide)]
  show has c b (rest 0) X = iprop(has c b (rest 0).left X ∗ has c b (rest 1).left X ∗ has c b (rest 2).left X ∗ has c b (rest 3).left X
    ∗ has c b (rest 4).left X ∗ has c b (rest 5).left X ∗ has c b (rest 6) X)
  rw [← h 5, ← h 4, ← h 3, ← h 2, ← h 1, ← h 0]

/-! ## The schedule -/

/-- What a unit of device `c`'s barrier from slot `s`'s device hands over: that device's landing slots for what `c`
    sends it. -/
def barPay (c : Dev nD) (s : Fin 7) : sProp 𝕄 :=
  iprop(some' (src c s) (cutB mA s.rev) ∗ some' (src c s) (cutB mG s.rev) ∗ some' (src c s) (cutM s.rev))

/-- What slot `s` of array `j` hands device `c` when its transfer is done: what was lent to be sent, or what landed. -/
def dmaPay (c : Dev nD) (j : Fin 6) (s : Fin 7) : sProp 𝕄 :=
  match j with
  | 0 => some' c (cutB mS s)
  | 1 => has c (cutB mA s) fullShare (part m (src c s) c)
  | 2 => has c mQ (sh s) (qmsg m c)
  | 3 => has c (cutB mG s) fullShare (shapeCast S1x512x2048 (qmsg m (src c s)) casts_rows)
  | 4 => has c mM (sh s) (amsg m c)
  | 5 => has c (cutM s) fullShare (shapeCast S1x8x128 (amsg m (src c s)) casts_msg)

/-- The units of one transfer into array `j`. -/
def amt : Fin 6 → ℕ :=
  ![(slotB mA 0).view.dmaCredit, (slotB mA 0).view.dmaCredit, (slotB mG 0).view.dmaCredit, (slotB mG 0).view.dmaCredit,
    (slotM 0).view.dmaCredit, (slotM 0).view.dmaCredit]

theorem amt_pos (j : Fin 6) : 0 < amt j := by
  fin_cases j <;> exact View.dmaCredit_pos _ (by decide)

/-- One round: seven single units at the barrier, one transfer at every other cell. -/
def ringRd : Rounds.Schedule (GSem nD τ sig) (Fin 7) 𝕄 where
  duties g r := if r = 0 then (match g.2 with | .reg _ => Finset.univ | .dma _ => {0}) else ∅
  amount g _ _ := match g.2 with | .reg _ => 1 | .dma q => amt (arrOf q)
  payload g _ d := match g.2 with | .reg _ => barPay g.1.1 d | .dma q => dmaPay m g.1.1 (arrOf q) (slotOf q)
  amount_pos g _ _ _ := by
    rcases g with ⟨t, _ | q⟩
    · exact Nat.one_pos
    · exact amt_pos _
  unitless _ := False

instance dmaPay_storable (c : Dev nD) (j : Fin 6) (s : Fin 7) : BI.Storable (upEmb : UEmb _ 𝕄) (dmaPay (F := F) m c j s) := by
  unfold dmaPay
  fin_cases j <;> dsimp only <;> infer_instance

instance ringRd_payload_storable (g : GSem nD τ sig) (r : ℕ) (d : Fin 7) :
    BI.Storable (upEmb : UEmb _ 𝕄) ((ringRd (F := F) m).payload g r d) := by
  rcases g with ⟨t, _ | q⟩
  · show BI.Storable upEmb (barPay t.1 d)
    unfold barPay
    infer_instance
  · show BI.Storable upEmb (dmaPay m t.1 (arrOf q) (slotOf q))
    infer_instance

theorem duties_bar (c : Dev nD) : (ringRd (F := F) m).duties (barCell c) 0 = Finset.univ := rfl
theorem duties_dma (c : Dev nD) (j : Fin 6) (s : Fin 7) : (ringRd (F := F) m).duties (dcell c j s) 0 = {0} := rfl
theorem duties_later (g : GSem nD τ sig) : ∀ r, 1 ≤ r → (ringRd (F := F) m).duties g r = ∅ :=
  fun r hr => by dsimp only [ringRd]; rw [if_neg fun h => by omega]
theorem amount_bar (c : Dev nD) (d : Fin 7) : (ringRd (F := F) m).amount (barCell c) 0 d = 1 := rfl
theorem amount_dma (c : Dev nD) (j : Fin 6) (s : Fin 7) (d : Fin 7) : (ringRd (F := F) m).amount (dcell c j s) 0 d = amt j := by
  show amt (arrOf (dsem j s)) = amt j
  rw [arrOf_dsem]
theorem expect_bar (c : Dev nD) : (ringRd (F := F) m).expect (barCell c) 0 = 7 := by
  unfold Schedule.expect Schedule.amountOf
  rw [duties_bar, Finset.sum_congr rfl fun d _ => amount_bar m c d]
  rfl
theorem expect_dma (c : Dev nD) (j : Fin 6) (s : Fin 7) : (ringRd (F := F) m).expect (dcell c j s) 0 = amt j := by
  unfold Schedule.expect Schedule.amountOf
  rw [duties_dma, Finset.sum_singleton, amount_dma]
theorem payload_bar (c : Dev nD) (d : Fin 7) : (ringRd (F := F) m).payload (barCell c) 0 d = barPay c d := rfl
theorem payload_dma (c : Dev nD) (j : Fin 6) (s : Fin 7) (d : Fin 7) : (ringRd (F := F) m).payload (dcell c j s) 0 d = dmaPay m c j s := by
  show dmaPay m c (arrOf (dsem j s)) (slotOf (dsem j s)) = _
  rw [arrOf_dsem, slotOf_dsem]
theorem rest_bar (c : Dev nD) :
    bigSep ((ringRd (F := F) m).duties (barCell c) 0 \ ∅) (fun d => (ringRd (F := F) m).payload (barCell c) 0 d) = bigSep Finset.univ (barPay c) := by
  rw [Finset.sdiff_empty, duties_bar]; rfl
theorem rest_dma (c : Dev nD) (j : Fin 6) (s : Fin 7) :
    bigSep ((ringRd (F := F) m).duties (dcell c j s) 0 \ ∅) (fun d => (ringRd (F := F) m).payload (dcell c j s) 0 d) = dmaPay m c j s := by
  rw [Finset.sdiff_empty, duties_dma, bigSep_singleton, payload_dma]

/-! ## What each device owes -/

abbrev Tally : Type := CellTallies nD τ sig Unit

/-- The sum of the first `n` slots' tallies. -/
def upTo (f : Fin 7 → Tally) (n : ℕ) : Tally := ∑ s ∈ Finset.univ.filter (fun s : Fin 7 => s.val < n), f s

theorem upTo_zero (f : Fin 7 → Tally) : upTo f 0 = 0 := by
  unfold upTo; rw [Finset.filter_false_of_mem fun s _ => Nat.not_lt_zero _, Finset.sum_empty]
theorem upTo_succ (f : Fin 7 → Tally) (s : Fin 7) : upTo f (s.val + 1) = upTo f s.val + f s := by
  unfold upTo
  have h : (Finset.univ.filter fun t : Fin 7 => t.val < s.val + 1) = insert s (Finset.univ.filter fun t : Fin 7 => t.val < s.val) := by
    ext t
    simp only [Finset.mem_filter, Finset.mem_univ, true_and, Finset.mem_insert, Fin.ext_iff]
    omega
  rw [h, Finset.sum_insert (by simp), add_comm]
theorem upTo_step (O : Tally) (f : Fin 7 → Tally) (s : Fin 7) : O + upTo f (s.val + 1) = O + upTo f s.val + f s := by
  rw [upTo_succ, add_assoc]
theorem upTo_seven (f : Fin 7 → Tally) : upTo f 7 = ∑ s, f s := by
  unfold upTo; rw [Finset.filter_true_of_mem fun s _ => s.isLt]

/-- Device `c` owes slot `s`'s device one unit of its barrier, -/
def oweB (c : Dev nD) (s : Fin 7) : Tally := tallyAt (barCell (dst c s)) () 1
/-- and the transfer into its array `j`. -/
def oweD (c : Dev nD) (j : Fin 6) (s : Fin 7) : Tally := tallyAt (dcell (dst c s) j s) () (amt j)

/-- What device `c` owes when only its quantised rows are still to send; when its maxima are too; its products; at launch. -/
def owed3 (c : Dev nD) : Tally := upTo (oweD c 3) 7
def owed2 (c : Dev nD) : Tally := owed3 c + upTo (oweD c 5) 7
def owed1 (c : Dev nD) : Tally := owed2 c + upTo (oweD c 1) 7
def O₀ (c : Dev nD) : Tally := owed1 c + upTo (oweB c) 7

/-! ## The levels -/

def L (g : GSem nD τ sig) : Finset Unit := if g.1.2 = .tc then {()} else ∅
/-- Barriers at 1, what lands above that in the order of the phases, everything else at 0. -/
def lv (g : GSem nD τ sig) (_ : Unit) : ℕ :=
  match g.2 with
  | .reg _ => 1
  | .dma q => if q.val < 3 then 0 else (![0, 2, 0, 4, 0, 3] : Fin 6 → ℕ) (arrOf q)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_dma (c : Dev nD) (j : Fin 6) (s : Fin 7) : lv (dcell c j s) () = (![0, 2, 0, 4, 0, 3] : Fin 6 → ℕ) j := by
  show (if (dsem j s).val < 3 then 0 else (![0, 2, 0, 4, 0, 3] : Fin 6 → ℕ) (arrOf (dsem j s))) = _
  rw [arrOf_dsem, if_neg (by rw [dsem_val]; omega)]

/-- Every cell `O` owes is a device's, above level `n`. -/
def Above (n : ℕ) (O : Tally) : Prop := ∀ (g : GSem nD τ sig) (u : Unit), 0 < O g u → g.1.2 = .tc ∧ n < lv g u

theorem above_zero (n : ℕ) : Above n 0 := fun g u h => absurd h (Nat.lt_irrefl 0)
theorem above_tally {n : ℕ} {c : Dev nD} {sm : SemLoc sig} {k : ℕ} (h : n < lv ((c : Thread nD τ), sm) ()) :
    Above n (tallyAt ((c : Thread nD τ), sm) () k) := fun g u hg => by
  rw [tallyAt_apply] at hg
  by_cases hc : g = ((c : Thread nD τ), sm) ∧ u = ()
  · rw [hc.1]; exact ⟨rfl, h⟩
  · rw [if_neg hc] at hg; exact absurd hg (Nat.lt_irrefl 0)
theorem above_add {n : ℕ} {O O' : Tally} (h : Above n O) (h' : Above n O') : Above n (O + O') := fun g u hg => by
  rw [Pi.add_apply, Finsupp.add_apply] at hg
  rcases Nat.pos_of_ne_zero (fun h0 : O g u + O' g u = 0 => by omega) |> fun _ => Nat.add_pos_iff_pos_or_pos.mp hg with hp | hp
  · exact h g u hp
  · exact h' g u hp
theorem above_upTo {n : ℕ} {f : Fin 7 → Tally} (h : ∀ s, Above n (f s)) (k : ℕ) : Above n (upTo f k) := by
  unfold upTo
  exact Finset.sum_induction _ (Above n) (fun _ _ => above_add) (above_zero n) fun s _ => h s

theorem above_oweD {n : ℕ} (c : Dev nD) (j : Fin 6) (k : ℕ) (h : n < (![0, 2, 0, 4, 0, 3] : Fin 6 → ℕ) j) : Above n (upTo (oweD c j) k) :=
  above_upTo (fun s => above_tally (by rw [lv_dma]; exact h)) k
theorem above_owed3 (c : Dev nD) : Above 3 (owed3 c) := above_oweD c 3 7 (by decide)
theorem above_owed2 (c : Dev nD) : Above 2 (owed2 c) :=
  above_add (above_oweD c 3 7 (by decide)) (above_oweD c 5 7 (by decide))
theorem above_owed1 (c : Dev nD) : Above 1 (owed1 c) :=
  above_add (above_add (above_oweD c 3 7 (by decide)) (above_oweD c 5 7 (by decide))) (above_oweD c 1 7 (by decide))
theorem above_O₀ (c : Dev nD) : Above 0 (O₀ c) :=
  above_add (above_add (above_add (above_oweD c 3 7 (by decide)) (above_oweD c 5 7 (by decide))) (above_oweD c 1 7 (by decide)))
    (above_upTo (fun s => above_tally (by rw [lv_bar]; decide)) 7)
theorem Above.mono {n n' : ℕ} {O : Tally} (h : Above n O) (hn : n' ≤ n) : Above n' O := fun g u hg => ⟨(h g u hg).1, lt_of_le_of_lt hn (h g u hg).2⟩

/-- A device may wait at a cell when everything it owes is above it. -/
theorem mayWait (c : Dev nD) (sm : SemLoc sig) (n : ℕ) (hn : lv ((c : Thread nD τ), sm) () ≤ n) (O : Tally) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by
      have h := (hO g u hg).1
      rw [show L g = {()} from if_pos h]; exact Finset.mem_singleton_self _)
    (fun p hp => by rw [Finset.mem_singleton.mp hp]; exact hn)
    (fun g u hg => (hO g u hg).2)

end Cert.Run

end
-- ==== Proof.Run.Steps.lean ====
/-
  The three things a device does with a cell — signal a barrier, send a transfer, wait — each as one rule over memrefs
  owned at a value, for any array and slot.
-/
module

public import proofs.«01_k».proof.Proof.Run.Proto

@[expose] public section

noncomputable section

namespace Cert.Run

open Idealize.ShloMosaic Idealize.ShloMosaic.TcCoe Idealize.SL Idealize.SL.RA Idealize.SL.BI Idealize.SL.Sem
open Idealize.SL.BI.BIBase Idealize.SL.BI.Laws Idealize.SL.ProofMode
open scoped Idealize.SL.BI
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

abbrev Cells : Type := Dev nD × Option (Fin 6 × Fin 7)

/-- What every device knows: every cell's invariant, that every cell is open, the levels. -/
def records (K : Cells → ℕ) : sProp 𝕄 :=
  iprop((bigSep Finset.univ fun ck : Cells => cellInv ER (ringRd m) (K ck) (kcell ck))
    ∗ (bigSep Finset.univ fun ck : Cells => reached ER (kcell ck) 0) ∗ levAts L lv)

instance records_persistent (K : Cells → ℕ) : BI.Persistent (records m K) := by unfold records; infer_instance

variable (K : Cells → ℕ)

theorem inv_bar (c : Dev nD) : (records m K : sProp 𝕄) ⊢ cellInv ER (ringRd m) (K (c, none)) (barCell c) := by
  unfold records
  exact sep_elim_left.trans (bigSep_elim (Finset.mem_univ ((c, none) : Cells)))
theorem inv_dma (c : Dev nD) (j : Fin 6) (s : Fin 7) : (records m K : sProp 𝕄) ⊢ cellInv ER (ringRd m) (K (c, some (j, s))) (dcell c j s) := by
  unfold records
  exact sep_elim_left.trans (bigSep_elim (Finset.mem_univ ((c, some (j, s)) : Cells)))
theorem reached_bar (c : Dev nD) : (records m K : sProp 𝕄) ⊢ reached ER (barCell c) 0 := by
  unfold records
  exact sep_elim_right.trans (sep_elim_left.trans (bigSep_elim (Finset.mem_univ ((c, none) : Cells))))
theorem reached_dma (c : Dev nD) (j : Fin 6) (s : Fin 7) : (records m K : sProp 𝕄) ⊢ reached ER (dcell c j s) 0 := by
  unfold records
  exact sep_elim_right.trans (sep_elim_left.trans (bigSep_elim (Finset.mem_univ ((c, some (j, s)) : Cells))))
theorem levels : (records m K : sProp 𝕄) ⊢ levAts L lv := by
  unfold records
  exact sep_elim_right.trans sep_elim_right

/-- What device `c` owes, whatever waits it has behind it. -/
def owing' (c : Dev nD) (O : Tally) : sProp 𝕄 := iprop(∃ W, owes (c : Thread nD τ) O W)

variable {α : Type} (c : Dev nD)

/-- Signalling slot `s`'s device. -/
theorem wp_signal' {Q : α → sProp 𝕄} {k : PUnit → P F α} (d : Dev nD) (s : Fin 7) (hd : d = dst c s) (O O' : Tally) (hO : O = O' + oweB c s) :
    iprop(records m K ∗ owing' c O ∗ dutyTok ER (barCell (dst c s)) 0 s ∗ barPay (dst c s) s)
      ⊢ iprop((owing' c O' -∗ WP c (k ⟨⟩) Q) -∗ WP c (.op (.semSignal (d : Thread nD τ) barS 1) k) Q) := by
  subst hd
  unfold owing'
  iintro ⟨#HR, ⟨%W, HO⟩, Ht, Hp⟩ Hk
  iapply (Rounds.wp_signal 𝒱₀ ER (ringRd m) (c : Thread nD τ) none (dst := (dst c s : Thread nD τ)) (κ := K (dst c s, none))
      (d := s) (by rw [duties_bar]; exact Finset.mem_univ _) (amount_bar m (dst c s) s) () O' hO) $$ [HO Ht Hp]
  · isplitr; · iapply (inv_bar m K (dst c s)); iexact HR
    isplitl [HO]; · iexact HO
    isplitl [Ht]; · iexact Ht
    isplitl [Hp]; · rw [payload_bar]; iexact Hp
    iapply (reached_bar m K (dst c s)); iexact HR
  iintro HO
  iapply Hk
  iexists W
  iexact HO

/-- Sending `X` from `a` to slot `s` of device `d`, which lands in `b`: what is lent goes with array `j`, what lands with
    array `j'`. -/
theorem wp_send' {Q : α → sProp 𝕄} {k : PUnit → P F α} (d : Dev nD) (s : Fin 7) (hd : d = dst c s) {sh' : Shape} {e : EltTy}
    {a b : Memref sig .tc .vmem sh' e} (j j' : Fin 6) {s₁ s₂ : DmaSem sig} (h₁ : s₁ = dsem j s) (h₂ : s₂ = dsem j' s)
    (hb : b.view.dmaCredit = amt j') (hj : amt j = amt j')
    {hsc : (show Memref sig (d : Thread nD τ).2.kind .vmem sh' e from b).view.ref.isScScratch = false}
    {x₁ : a.view.WordExact} {x₂ : (show Memref sig (d : Thread nD τ).2.kind .vmem sh' e from b).view.WordExact}
    {x₃ : DmaTarget.Typed .vmem (.dma s₂) (.remote (d : Thread nD τ) (show Memref sig (d : Thread nD τ).2.kind .vmem sh' e from b) (.dma s₁) hsc)}
    (q : PosShare TreeShare) (X : sh'.Idx → Elt F e) (O O' : Tally) (hO : O = O' + oweD c j' s)
    (hp₁ : (has c a q X : sProp 𝕄) ⊢ dmaPay m c j s) (hp₂ : (has (dst c s) b fullShare X : sProp 𝕄) ⊢ dmaPay m (dst c s) j' s) :
    iprop(records m K ∗ has c a q X ∗ some' (dst c s) b ∗ owing' c O ∗ dutyTok ER (dcell c j s) 0 0 ∗ dutyTok ER (dcell (dst c s) j' s) 0 0)
      ⊢ iprop(((cred (tallyAt (dcell c j s) () (amt j)) ∗ owing' c O') -∗ WP c (k ⟨⟩) Q)
        -∗ WP c (.op (.enqueueDma a (.remote (d : Thread nD τ) b (.dma s₁) hsc) (.dma s₂) x₁ x₂ x₃) k) Q) := by
  subst hd h₁ h₂
  unfold owing' some' has owns
  iintro ⟨#HR, ⟨%f, %hf, Ha⟩, ⟨%Y, ⟨%g, %hg, Hb⟩⟩, ⟨%W, HO⟩, Ht, Ht'⟩ Hk
  iapply (Rounds.wp_send_pointsTo 𝒱₀ ER (ringRd m) (c : Thread nD τ) none (c' := (dst c s : Thread nD τ)) (src := a) (dst := b)
    (sS := .dma (dsem j s)) (sem := .dma (dsem j' s)) (hsc := hsc) (κ₁ := K (c, some (j, s))) (κ₂ := K (dst c s, some (j', s)))
    (r₁ := 0) (r₂ := 0) (d₁ := 0) (d₂ := 0) (fd := g)
    (by rw [duties_dma]; exact Finset.mem_singleton_self _) (by rw [duties_dma]; exact Finset.mem_singleton_self _)
    () () (amt j') hb ((amount_dma m c j s 0).trans hj) (amount_dma m (dst c s) j' s 0) O' hO (W := W)
    (by
      rw [payload_dma]
      refine BIBase.Entails.trans ?_ hp₁
      unfold has owns
      iintro H
      iexists f
      isplitr; · ipureintro; exact hf
      iexact H)
    (by
      rw [payload_dma]
      refine BIBase.Entails.trans ?_ hp₂
      unfold has owns
      iintro H
      iexists _
      isplitr
      swap
      · iexact H
      · ipureintro
        rw [← hf]
        exact View.read_write_univ _ _)) $$ [Ha Hb HO Ht Ht']
  · isplitr; · iapply (inv_dma m K c j s); iexact HR
    isplitr; · iapply (inv_dma m K (dst c s) j' s); iexact HR
    isplitl [Ha]; · iexact Ha
    isplitl [Hb]; · iexact Hb
    isplitl [HO]; · iexact HO
    isplitl [Ht]; · iexact Ht
    isplitr; · iapply (reached_dma m K c j s); iexact HR
    isplitl [Ht']; · iexact Ht'
    iapply (reached_dma m K (dst c s) j' s); iexact HR
  iintro ⟨Hc, HO⟩
  iapply Hk
  rw [hj]
  isplitl [Hc]; · iexact Hc
  iexists W
  iexact HO

/-- Waiting for slot `s` of array `j`: what it hands over, and the semaphore back at zero. -/
theorem wp_wait' {Q : α → sProp 𝕄} {k : PUnit → P F α} (s : Fin 7) {sh' sh'' : Shape} {e e' : EltTy}
    {a : Memref sig .tc .vmem sh' e} {b : Memref sig .tc .vmem sh'' e'} (j : Fin 6) {s₁ : DmaSem sig} (h₁ : s₁ = dsem j s)
    (hb : b.view.dmaCredit = amt j) {x₁ : a.view.WordExact} {x₂ : b.view.WordExact}
    (O : Tally) (n : ℕ) (hn : (![0, 2, 0, 4, 0, 3] : Fin 6 → ℕ) j ≤ n) (hO : Above n O) :
    iprop(records m K ∗ cred (tallyAt (dcell c j s) () (amt j)) ∗ owing' c O ∗ atPos ER (dcell c j s) 0 ∅ 0)
      ⊢ iprop(((owing' c O ∗ semVal (dcell c j s) 0 ∗ dmaPay m c j s) -∗ WP c (k ⟨⟩) Q)
        -∗ WP c (.op (.waitDma2 s₁ a b x₁ x₂) k) Q) := by
  subst h₁
  unfold owing'
  iintro ⟨#HR, Hc, ⟨%W, HO⟩, Hat⟩ Hk
  iapply (Rounds.wp_wait_rest_token 𝒱₀ ER (ringRd m) (c : Thread nD τ) none (κ := K (c, some (j, s)))
      (wpE_waitDma2_eq 𝒱₀ (c : Thread nD τ) none Set.univ) (Set.mem_univ _) () (O := O) (W := W) (R := 0) (m := 0) (T := ∅)
      (by rw [Nat.zero_add, expect_dma]; exact hb)) $$ [Hc HO Hat]
  · isplitr; · iapply (inv_dma m K c j s); iexact HR
    isplitl [Hc]; · rw [hb]; iexact Hc
    isplitl [HO]; · iexact HO
    isplitr
    · iapply (mayWait c (.dma (dsem j s)) n (by rw [lv_dma]; exact hn) O hO)
      iapply (levels m K); iexact HR
    iexact Hat
  iintro ⟨HO, Hat, -, Hpay⟩
  ihave Hp := (Entails.of_eq (rest_dma m c j s)) $$ Hpay
  ihave #HI := (inv_dma m K c j s) $$ HR
  imod (Rounds.cell_close ER (ringRd m) (Set.mem_univ (K (c, some (j, s)))) (fun h => h) (R := 0 + 1) (duties_later m (dcell c j s))) $$ [Hat] with Hz
  · isplitr; · iexact HI
    iexact Hat
  iapply Hk
  isplitl [HO]
  · iexists _; iexact HO
  isplitl [Hz]; · iexact Hz
  iexact Hp

/-- Waiting for the barrier's seven units: the landing slots of the seven other devices, and the barrier back at zero. -/
theorem wp_wait_bar {Q : α → sProp 𝕄} {k : PUnit → P F α} (O : Tally) (hO : Above 1 O) :
    iprop(records m K ∗ cred (tallyAt (barCell c) () 7) ∗ owing' c O ∗ atPos ER (barCell c) 0 ∅ 0)
      ⊢ iprop(((owing' c O ∗ semVal (barCell c) 0 ∗ bigSep Finset.univ (barPay (F := F) c)) -∗ WP c (k ⟨⟩) Q)
        -∗ WP c (.op (.semWait barS 7) k) Q) := by
  unfold owing'
  iintro ⟨#HR, Hc, ⟨%W, HO⟩, Hat⟩ Hk
  iapply (Rounds.wp_wait_rest_token 𝒱₀ ER (ringRd m) (c : Thread nD τ) none (κ := K (c, none))
      (wpE_semWait_eq 𝒱₀ (c : Thread nD τ) none Set.univ) (Set.mem_univ _) () (O := O) (W := W) (R := 0) (m := 0) (T := ∅)
      (by rw [Nat.zero_add, expect_bar])) $$ [Hc HO Hat]
  · isplitr; · iapply (inv_bar m K c); iexact HR
    isplitl [Hc]; · iexact Hc
    isplitl [HO]; · iexact HO
    isplitr
    · iapply (mayWait c (.reg barS) 1 (by rw [lv_bar]) O hO)
      iapply (levels m K); iexact HR
    iexact Hat
  iintro ⟨HO, Hat, -, Hpay⟩
  ihave Hp := (Entails.of_eq (rest_bar m c)) $$ Hpay
  ihave #HI := (inv_bar m K c) $$ HR
  imod (Rounds.cell_close ER (ringRd m) (Set.mem_univ (K (c, none))) (fun h => h) (R := 0 + 1) (duties_later m (barCell c))) $$ [Hat] with Hz
  · isplitr; · iexact HI
    iexact Hat
  iapply Hk
  isplitl [HO]
  · iexists _; iexact HO
  isplitl [Hz]; · iexact Hz
  iexact Hp

end Cert.Run

end
-- ==== Proof.Run.Phases.lean ====
/-
  The passes of the body, one theorem each: what a device hands in and what it has afterwards.
-/
module

public import proofs.«01_k».proof.Proof.Run.Steps

@[expose] public section

noncomputable section

namespace Cert.Run

open Idealize.ShloMosaic Idealize.ShloMosaic.TcCoe Idealize.SL Idealize.SL.RA Idealize.SL.BI Idealize.SL.Sem
open Idealize.SL.BI.BIBase Idealize.SL.BI.Laws Idealize.SL.ProofMode
open scoped Idealize.SL.BI
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Cells → ℕ) (c : Dev nD)

/-! ## Small facts about rectangles and slots -/

/-- Two spellings of one offset name one slot. -/
theorem has_unit_congr {s : Shape} {e : EltTy} (b : Memref sig .tc .vmem s e) {off off' size : Fin s.rank → Nat} (h : off = off')
    (p : ∀ a, off a + size a ≤ s.size a) (p' : ∀ a, off' a + size a ≤ s.size a) (q : PosShare TreeShare)
    (X : (Rect.unit off size p).shape.Idx → Elt F e) :
    (has c (b.slice (Rect.unit off size p) (fun _ => rfl)) q X : sProp 𝕄) = has c (b.slice (Rect.unit off' size p') (fun _ => rfl)) q X := by
  subst h; rfl

/-- A rectangle at offset zero of full size is the identity. -/
theorem emb_full {s : Shape} {off : Fin s.rank → Nat} (h : off = fun _ => 0) (p : ∀ a, off a + s.size a ≤ s.size a)
    (j : (Rect.unit off s.size p).shape.Idx) : (Rect.unit off s.size p).emb j = j := by
  subst h
  funext a
  exact Fin.ext (by rw [Rect.emb_apply]; show 0 + 1 * (j a).val = (j a).val; omega)

theorem zero2 : (![0, 0] : Fin 2 → Nat) = fun _ => 0 := by decide
theorem zero3 : (![0, 0, 0] : Fin 3 → Nat) = fun _ => 0 := by decide

/-- A memref is its one full-size slice. -/
theorem has_full [∀ e, Nonempty (Elt F e)] {s : Shape} {e : EltTy} (b : Memref sig .tc .vmem s e) {off : Fin s.rank → Nat} (h : off = fun _ => 0)
    (p : ∀ a, off a + s.size a ≤ s.size a) (q : PosShare TreeShare) (X : s.Idx → Elt F e) :
    (has c b q X : sProp 𝕄) = has c (b.slice (Rect.unit off s.size p) (fun _ => rfl)) q X := by
  have hX : (fun j => X ((Rect.unit off s.size p).emb j)) = X := funext fun j => congrArg X (emb_full h p j)
  have hcov : (Finset.univ : Finset Unit).biUnion (fun _ => (Rect.unit off s.size p).set) = Finset.univ := by
    ext i
    simp only [Finset.mem_biUnion, Finset.mem_univ, true_and, exists_const, iff_true]
    rw [← Rect.map_emb_univ]
    exact Finset.mem_map.mpr ⟨i, Finset.mem_univ _, emb_full h p i⟩
  have hd : ∀ t t' : Unit, t ≠ t' → Disjoint (Rect.unit off s.size p).set (Rect.unit off s.size p).set := fun t t' ht => absurd rfl ht
  have e1 : (bigSep Finset.univ fun _ : Unit => has c (b.slice (Rect.unit off s.size p) (fun _ => rfl)) q (fun j => X ((Rect.unit off s.size p).emb j)) : sProp 𝕄)
      = has c (b.slice (Rect.unit off s.size p) (fun _ => rfl)) q X := by
    rw [hX, show (Finset.univ : Finset Unit) = {()} from rfl, bigSep_singleton]
  refine BI.equiv_iff.mp ⟨?_, ?_⟩
  · exact (owns_rects (c : Thread nD τ) b q (fun _ : Unit => Rect.unit off s.size p) (fun _ _ => rfl) hd hcov X).trans (Entails.of_eq e1)
  · exact (Entails.of_eq e1.symm).trans (owns_of_rects (c : Thread nD τ) b q (fun _ : Unit => Rect.unit off s.size p) (fun _ _ => rfl) hd hcov X)

/-- A memref held at some value has its squeeze held at some value, and back. -/
theorem some_squeeze {s s' : Shape} {e : EltTy} (b : Memref sig .tc .vmem s e) (h : s.Squeezes s') (hc : s.ShapeCasts s') :
    (some' c b : sProp 𝕄) ⊢ some' c (b.squeeze s' h) := by
  iintro ⟨%X, H⟩
  iexists (shapeCast s' X hc)
  rw [has_squeeze]
  iexact H

/-- A squeezed slot at a value is the slot at that value in the longer shape. -/
theorem has_unsqueeze {s s' : Shape} {e : EltTy} (b : Memref sig .tc .vmem s e) (h : s.Squeezes s') (hc : s.ShapeCasts s') (hc' : s'.ShapeCasts s)
    (q : PosShare TreeShare) (Y : s'.Idx → Elt F e) : (has c (b.squeeze s' h) q Y : sProp 𝕄) = has c b q (shapeCast s Y hc') := by
  rw [← has_squeeze c h hc q (shapeCast s Y hc'), shapeCast_shapeCast]

theorem sq_rows : S1x512x2048.ShapeCasts S512x2048 := shapeCasts_S1x512x2048_S512x2048
theorem sq_msg : S1x8x128.ShapeCasts S8x128 := by decide

theorem credA (s : Fin 7) : (slotB mA s).view.dmaCredit = amt 1 := rfl
theorem credS (s : Fin 7) : (slotB mS s).view.dmaCredit = amt 0 := rfl
theorem credG (s : Fin 7) : (slotB mG s).view.dmaCredit = amt 3 := rfl
theorem credQ : mQ.view.dmaCredit = amt 2 := rfl
theorem credR (s : Fin 7) : (slotM s).view.dmaCredit = amt 5 := rfl
theorem credM : mM.view.dmaCredit = amt 4 := rfl

/-! ## The passes' steps: what slot `s`'s step takes, what it gives -/

/-- Signals: the right to signal slot `s`'s device, and the device's own landing slots for it. -/
abbrev inSig (s : Fin 7) : sProp 𝕄 :=
  iprop(dutyTok ER (barCell (dst c s)) 0 s ∗ some' (F := F) c (cutB mA s.rev) ∗ some' (F := F) c (cutB mG s.rev) ∗ some' (F := F) c (cutM s.rev))
abbrev atSig (n : ℕ) : sProp 𝕄 := owing' c (owed1 c + upTo (oweB c) n)

theorem step_signal (s : Fin 7) (Kt : PUnit → sProp 𝕄) :
    iprop(records m K ∗ inSig c s ∗ atSig c (s.val + 1) ∗ ((emp ∗ atSig c s.val) -∗ Kt ⟨⟩)) ⊢ WP c (stepSignal c s) Kt := by
  simp only [stepSignal, semSignalWord, Prog.lift]
  iintro ⟨#HR, ⟨Ht, Hp⟩, HO, Hk⟩
  iapply (wp_signal' m K c (devB c s) s (devB_eq c s) _ (owed1 c + upTo (oweB c) s.val) (upTo_step _ _ s)) $$ [HO Ht Hp]
  · isplitr; · iexact HR
    isplitl [HO]; · iexact HO
    isplitl [Ht]; · iexact Ht
    unfold barPay
    rw [src_dst]
    iexact Hp
  iintro HO
  rw [WP, wp_ret]
  imodintro
  iapply Hk
  isplitr; · iempintro
  iexact HO

/-- Products: a slot of the send buffer, slot `s`'s device's landing slot, the rights to both cells. -/
abbrev inProd (s : Fin 7) : sProp 𝕄 :=
  iprop(some' (F := F) c (cutB mS s) ∗ some' (F := F) (dst c s) (cutB mA s) ∗ dutyTok ER (dcell c 0 s) 0 0 ∗ dutyTok ER (dcell (dst c s) 1 s) 0 0)
abbrev outSent (j : Fin 6) (s : Fin 7) : sProp 𝕄 := cred (tallyAt (dcell c j s) () (amt j))
abbrev atProd (n : ℕ) : sProp 𝕄 :=
  iprop(has c mX fullShare (xstg m c) ∗ has c mW fullShare (wstg m c) ∗ owing' c (owed2 c + upTo (oweD c 1) n))

theorem emb_rX (s : Fin 7) (j : S512x512.Idx) : (rX c s).emb j = (rowsX (dst c s)).emb j := funext fun a => Fin.ext (by
  rw [Rect.emb_apply, Rect.emb_apply]
  show k0_off1 c (stepW s) a + _ = (![512 * (dst c s).val, 0] : Fin 2 → ℕ) a + _
  rw [off1_eq]
  rfl)
theorem emb_rXown (j : S512x512.Idx) : (rXown c).emb j = (rowsX c).emb j := funext fun a => Fin.ext (by
  rw [Rect.emb_apply, Rect.emb_apply]
  show k0_off2 c a + _ = (![512 * c.val, 0] : Fin 2 → ℕ) a + _
  rw [k0_off2_eq]
  rfl)
theorem emb_rW (j : S512x2048.Idx) : rW.emb j = j := emb_full (s := S512x2048) zero2 inb_S512x2048_S512x2048_0_0 j

theorem step_prod (s : Fin 7) (Kt : PUnit → sProp 𝕄) :
    iprop(records m K ∗ inProd c s ∗ atProd m c (s.val + 1) ∗ ((outSent c 0 s ∗ atProd m c s.val) -∗ Kt ⟨⟩)) ⊢ WP c (stepProd c s) Kt := by
  simp only [stepProd, Prog.lift, Prog.bind_op, Prog.bind_ret]
  iintro ⟨#HR, ⟨⟨%Y, HS⟩, HA, Ht, Ht'⟩, ⟨HX, HW, HO⟩, Hk⟩
  iapply (wp_load_as c (m := mX) (r := rX c s) fullShare (xstg m c) (xrows m c (dst c s)) fun j => congrArg (xstg m c) (emb_rX c s j)) $$ HX
  iintro HX
  iapply (wp_load_as c (m := mW) (r := rW) fullShare (wstg m c) (wstg m c) fun j => congrArg (wstg m c) (emb_rW j)) $$ HW
  iintro HW
  iapply (wp_load_slot c (m := mS) (fun _ => rfl) fullShare Y) $$ HS
  iintro HS
  iapply (wp_store_as c (m := mS) (r := rBig s) (fun _ => rfl) Y (part m c (dst c s)) rfl) $$ HS
  iintro HS
  ihave HA' := (some_squeeze (dst c s) (cutB mA s) squeezes_S1x512x2048_S512x2048 sq_rows) $$ HA
  ihave HS' := (Entails.of_eq (has_squeeze c squeezes_S1x512x2048_S512x2048 sq_rows fullShare (part m c (dst c s))).symm) $$ HS
  iapply (wp_send' m K c (devA c s) s (devA_eq c s) (a := slotB mS s) (b := slotB mA s) 0 1 rfl rfl (credA s) rfl fullShare _ _
      (owed2 c + upTo (oweD c 1) s.val) (upTo_step _ _ s)
      (by
        unfold dmaPay
        dsimp only
        iintro H
        iexists (part m c (dst c s))
        ihave H' := (Entails.of_eq (has_squeeze c squeezes_S1x512x2048_S512x2048 sq_rows fullShare (part m c (dst c s)))) $$ H
        iexact H')
      (by
        unfold dmaPay
        dsimp only
        rw [src_dst]
        exact Entails.of_eq (has_squeeze (dst c s) squeezes_S1x512x2048_S512x2048 sq_rows fullShare (part m c (dst c s))))) $$ [HS' HA' HO Ht Ht']
  · isplitr; · iexact HR
    isplitl [HS']; · iexact HS'
    isplitl [HA']; · iexact HA'
    isplitl [HO]; · iexact HO
    isplitl [Ht]; · iexact Ht
    iexact Ht'
  iintro ⟨Hc, HO⟩
  rw [WP, wp_ret]
  imodintro
  iapply Hk
  isplitl [Hc]; · iexact Hc
  isplitl [HX]; · iexact HX
  isplitl [HW]; · iexact HW
  iexact HO

/-- A pair of waits, for what was sent from slot `s` through array `j` and what landed there through array `j'`. -/
abbrev inWait (j j' : Fin 6) (s : Fin 7) : sProp 𝕄 :=
  iprop(outSent (F := F) c j s ∗ atPos ER (dcell c j s) 0 ∅ 0 ∗ outSent (F := F) c j' s ∗ atPos ER (dcell c j' s) 0 ∅ 0)
/-- Both semaphores are back at zero. -/
abbrev zeros (j j' : Fin 6) (s : Fin 7) : sProp 𝕄 := iprop(semVal (dcell c j s) 0 ∗ semVal (dcell c j' s) 0)

theorem step_take (s : Fin 7) (Kt : Vec F S1x512x2048 .bf16 → sProp 𝕄) :
    iprop(records m K ∗ inWait c 0 1 s ∗ owing' c (owed2 c)
        ∗ (((zeros c 0 1 s ∗ dmaPay m c 0 s ∗ dmaPay m c 1 s) ∗ owing' c (owed2 c)) -∗ Kt (part m (src c s) c)))
      ⊢ WP c (stepTake s) Kt := by
  simp only [stepTake, Prog.lift, Prog.bind_op, Prog.bind_ret]
  iintro ⟨#HR, ⟨Hc, Ha, Hc', Ha'⟩, HO, Hk⟩
  iapply (wp_wait' m K c s (a := slotB mA s) (b := slotB mS s) 0 rfl (credS s) (owed2 c) 2 (by decide) (above_owed2 c)) $$ [Hc HO Ha]
  · isplitr; · iexact HR
    isplitl [Hc]; · iexact Hc
    isplitl [HO]; · iexact HO
    iexact Ha
  iintro ⟨HO, Hz, Hp⟩
  iapply (wp_wait' m K c s (a := slotB mS s) (b := slotB mA s) 1 rfl (credA s) (owed2 c) 2 (by decide) (above_owed2 c)) $$ [Hc' HO Ha']
  · isplitr; · iexact HR
    isplitl [Hc']; · iexact Hc'
    isplitl [HO]; · iexact HO
    iexact Ha'
  iintro ⟨HO, Hz', Hp'⟩
  unfold dmaPay
  dsimp only
  iapply (wp_load_slot c (m := mA) (fun _ => rfl) fullShare (part m (src c s) c)) $$ Hp'
  iintro Hp'
  rw [WP, wp_ret]
  imodintro
  iapply Hk
  isplitr [HO]
  · isplitl [Hz Hz']
    · isplitl [Hz]; · iexact Hz
      iexact Hz'
    isplitl [Hp]; · iexact Hp
    iexact Hp'
  iexact HO

/-- Maxima: slot `s`'s share of the message, its device's landing slot, the rights to both cells. -/
abbrev inMax (s : Fin 7) : sProp 𝕄 :=
  iprop(has c mM (sh s) (amsg m c) ∗ some' (F := F) (dst c s) (cutM s) ∗ dutyTok ER (dcell c 4 s) 0 0 ∗ dutyTok ER (dcell (dst c s) 5 s) 0 0)
abbrev atMax (n : ℕ) : sProp 𝕄 := owing' c (owed3 c + upTo (oweD c 5) n)

theorem step_max (s : Fin 7) (Kt : PUnit → sProp 𝕄) :
    iprop(records m K ∗ inMax m c s ∗ atMax c (s.val + 1) ∗ ((outSent c 4 s ∗ atMax c s.val) -∗ Kt ⟨⟩)) ⊢ WP c (stepMax c s) Kt := by
  simp only [stepMax, Prog.lift]
  iintro ⟨#HR, ⟨HM, HA, Ht, Ht'⟩, HO, Hk⟩
  ihave HA' := (some_squeeze (dst c s) (cutM s) squeezes_S1x8x128_S8x128 sq_msg) $$ HA
  iapply (wp_send' m K c (devM c s) s (devM_eq c s) (a := mM) (b := slotM s) 4 5 rfl rfl (credR s) rfl (sh s) (amsg m c) _
      (owed3 c + upTo (oweD c 5) s.val) (upTo_step _ _ s)
      (by unfold dmaPay; exact BIBase.Entails.rfl)
      (by
        unfold dmaPay
        dsimp only
        rw [src_dst]
        exact Entails.of_eq (has_unsqueeze (dst c s) (cutM s) squeezes_S1x8x128_S8x128 sq_msg casts_msg fullShare (amsg m c)))) $$ [HM HA' HO Ht Ht']
  · isplitr; · iexact HR
    isplitl [HM]; · iexact HM
    isplitl [HA']; · iexact HA'
    isplitl [HO]; · iexact HO
    isplitl [Ht]; · iexact Ht
    iexact Ht'
  iintro ⟨Hc, HO⟩
  rw [WP, wp_ret]
  imodintro
  iapply Hk
  isplitl [Hc]; · iexact Hc
  iexact HO

theorem step_max_wait (s : Fin 7) (Kt : PUnit → sProp 𝕄) :
    iprop(records m K ∗ inWait c 4 5 s ∗ owing' c (owed3 c)
        ∗ (((zeros c 4 5 s ∗ dmaPay m c 4 s ∗ dmaPay m c 5 s) ∗ owing' c (owed3 c)) -∗ Kt ⟨⟩))
      ⊢ WP c (stepMaxWait s) Kt := by
  simp only [stepMaxWait, Prog.lift, Prog.bind_op, Prog.bind_ret]
  iintro ⟨#HR, ⟨Hc, Ha, Hc', Ha'⟩, HO, Hk⟩
  iapply (wp_wait' m K c s (a := slotM s) (b := mM) 4 rfl credM (owed3 c) 3 (by decide) (above_owed3 c)) $$ [Hc HO Ha]
  · isplitr; · iexact HR
    isplitl [Hc]; · iexact Hc
    isplitl [HO]; · iexact HO
    iexact Ha
  iintro ⟨HO, Hz, Hp⟩
  iapply (wp_wait' m K c s (a := mM) (b := slotM s) 5 rfl (credR s) (owed3 c) 3 (by decide) (above_owed3 c)) $$ [Hc' HO Ha']
  · isplitr; · iexact HR
    isplitl [Hc']; · iexact Hc'
    isplitl [HO]; · iexact HO
    iexact Ha'
  iintro ⟨HO, Hz', Hp'⟩
  rw [WP, wp_ret]
  imodintro
  iapply Hk
  isplitr [HO]
  · isplitl [Hz Hz']
    · isplitl [Hz]; · iexact Hz
      iexact Hz'
    isplitl [Hp]; · iexact Hp
    iexact Hp'
  iexact HO

/-- Quantised rows: slot `s`'s share of them, its device's landing slot, the rights to both cells. -/
abbrev inQ (s : Fin 7) : sProp 𝕄 :=
  iprop(has c mQ (sh s) (qmsg m c) ∗ some' (F := F) (dst c s) (cutB mG s) ∗ dutyTok ER (dcell c 2 s) 0 0 ∗ dutyTok ER (dcell (dst c s) 3 s) 0 0)
abbrev atQ (n : ℕ) : sProp 𝕄 := owing' c (upTo (oweD c 3) n)

theorem step_q (s : Fin 7) (Kt : PUnit → sProp 𝕄) :
    iprop(records m K ∗ inQ m c s ∗ atQ c (s.val + 1) ∗ ((outSent c 2 s ∗ atQ c s.val) -∗ Kt ⟨⟩)) ⊢ WP c (stepQ c s) Kt := by
  simp only [stepQ, Prog.lift]
  iintro ⟨#HR, ⟨HM, HA, Ht, Ht'⟩, HO, Hk⟩
  ihave HA' := (some_squeeze (dst c s) (cutB mG s) squeezes_S1x512x2048_S512x2048 sq_rows) $$ HA
  iapply (wp_send' m K c (devG c s) s (devG_eq c s) (a := mQ) (b := slotB mG s) 2 3 rfl rfl (credG s) rfl (sh s) (qmsg m c) _
      (upTo (oweD c 3) s.val) (upTo_succ _ s)
      (by unfold dmaPay; exact BIBase.Entails.rfl)
      (by
        unfold dmaPay
        dsimp only
        rw [src_dst]
        exact Entails.of_eq (has_unsqueeze (dst c s) (cutB mG s) squeezes_S1x512x2048_S512x2048 sq_rows casts_rows fullShare (qmsg m c)))) $$ [HM HA' HO Ht Ht']
  · isplitr; · iexact HR
    isplitl [HM]; · iexact HM
    isplitl [HA']; · iexact HA'
    isplitl [HO]; · iexact HO
    isplitl [Ht]; · iexact Ht
    iexact Ht'
  iintro ⟨Hc, HO⟩
  rw [WP, wp_ret]
  imodintro
  iapply Hk
  isplitl [Hc]; · iexact Hc
  iexact HO

theorem step_out (s : Fin 7) (Kt : PUnit → sProp 𝕄) :
    iprop(records m K ∗ (inWait c 2 3 s ∗ some' c (cutO (src c s))) ∗ owing' c 0
        ∗ (((zeros c 2 3 s ∗ dmaPay m c 2 s ∗ dmaPay m c 3 s ∗ has c (cutO (src c s)) fullShare (rowsAt m c (src c s))) ∗ owing' c 0) -∗ Kt ⟨⟩))
      ⊢ WP c (stepOut c (scale m c) s) Kt := by
  simp only [stepOut, Prog.lift, Prog.bind_op, Prog.bind_ret]
  iintro ⟨#HR, ⟨⟨Hc, Ha, Hc', Ha'⟩, ⟨%Y, HY⟩⟩, HO, Hk⟩
  iapply (wp_wait' m K c s (a := slotB mG s) (b := mQ) 2 rfl credQ 0 0 (by decide) (above_zero 0)) $$ [Hc HO Ha]
  · isplitr; · iexact HR
    isplitl [Hc]; · iexact Hc
    isplitl [HO]; · iexact HO
    iexact Ha
  iintro ⟨HO, Hz, Hp⟩
  iapply (wp_wait' m K c s (a := mQ) (b := slotB mG s) 3 rfl (credG s) 0 4 (by decide) (above_zero 4)) $$ [Hc' HO Ha']
  · isplitr; · iexact HR
    isplitl [Hc']; · iexact Hc'
    isplitl [HO]; · iexact HO
    iexact Ha'
  iintro ⟨HO, Hz', Hp'⟩
  unfold dmaPay
  dsimp only
  iapply (wp_load_slot c (m := mG) (fun _ => rfl) fullShare (shapeCast S1x512x2048 (qmsg m (src c s)) casts_rows)) $$ Hp'
  iintro Hp'
  ihave HY' := (Entails.of_eq (has_unit_congr c mO (off4_eq c s) (k0_off4_inb c (stepOf s)) (inbO (src c s)) fullShare Y).symm) $$ HY
  iapply (wp_load_slot c (m := mO) (r := rO c s) (fun _ => rfl) fullShare Y) $$ HY'
  iintro HY
  iapply (wp_store_as c (m := mO) (r := rO c s) (fun _ => rfl) Y (rowsAt m c (src c s)) rfl) $$ HY
  iintro HY
  ihave HY' := (Entails.of_eq (has_unit_congr c mO (off4_eq c s) (k0_off4_inb c (stepOf s)) (inbO (src c s)) fullShare _)) $$ HY
  rw [WP, wp_ret]
  imodintro
  iapply Hk
  isplitr [HO]
  · isplitl [Hz Hz']
    · isplitl [Hz]; · iexact Hz
      iexact Hz'
    isplitl [Hp]; · iexact Hp
    isplitl [Hp']; · iexact Hp'
    iexact HY'
  iexact HO

end Cert.Run

end
-- ==== Proof.Run.Split.lean ====
/-
  The buffers cut into the parts that travel, and put together again.
-/
module

public import proofs.«01_k».proof.Proof.Run.Phases

@[expose] public section

noncomputable section

namespace Cert.Run

open Idealize.ShloMosaic Idealize.ShloMosaic.TcCoe Idealize.SL Idealize.SL.RA Idealize.SL.BI Idealize.SL.Sem
open Idealize.SL.BI.BIBase Idealize.SL.BI.Laws Idealize.SL.ProofMode
open scoped Idealize.SL.BI
open Idealize.ShloMosaic.Rounds
open Cert.KernelIdeal Cert.KernelIdeal.Gen

variable {F : FTy → Type} [FloatOps F]

local notation "𝕄" => MT nD τ sig Unit (Elt F) ℕ UU ℕ

section Cut

variable (c : Dev nD) {s : Shape} {e : EltTy} (b : Memref sig .tc .vmem s e) {T : Type} [Fintype T] [DecidableEq T]
  (r : T → Rect s) (hr : ∀ t a, (r t).stride a = 1)
  (hd : ∀ t t', t ≠ t' → Disjoint (r t).set (r t').set) (hcov : (Finset.univ : Finset T).biUnion (fun t => (r t).set) = Finset.univ)

include hd hcov in
/-- A buffer held at some value is its parts, each held at some value, -/
theorem some_cut : (some' (F := F) c b : sProp 𝕄) ⊢ bigSep Finset.univ fun t => some' (F := F) c (b.slice (r t) (hr t)) := by
  iintro ⟨%X, H⟩
  ihave H' := (owns_rects (c : Thread nD τ) b fullShare r hr hd hcov X) $$ H
  have h : ∀ t ∈ (Finset.univ : Finset T), (has c (b.slice (r t) (hr t)) fullShare (fun j => X ((r t).emb j)) : sProp 𝕄) ⊢ some' c (b.slice (r t) (hr t)) := by
    intro t _
    iintro H
    iexists _
    iexact H
  iapply (show (bigSep Finset.univ fun t => has c (b.slice (r t) (hr t)) fullShare (fun j => X ((r t).emb j)) : sProp 𝕄)
    ⊢ bigSep Finset.univ fun t => some' c (b.slice (r t) (hr t)) from bigSep_mono h)
  iexact H'

include hd hcov in
/-- and back. -/
theorem some_join [∀ e, Nonempty (Elt F e)] : (bigSep Finset.univ fun t => some' (F := F) c (b.slice (r t) (hr t)) : sProp 𝕄) ⊢ some' c b := by
  classical
  iintro H
  ihave H' := (bigSep_exists_pi Finset.univ (fun t (X : (r t).shape.Idx → Elt F e) => (has c (b.slice (r t) (hr t)) fullShare X : sProp 𝕄))) $$ H
  icases H' with ⟨%Y, H⟩
  have hX : ∃ X : s.Idx → Elt F e, ∀ t j, X ((r t).emb j) = Y t j := by
    refine ⟨fun i => if h : ∃ p : Σ t, (r t).shape.Idx, (r p.1).emb p.2 = i then Y h.choose.1 h.choose.2 else Classical.arbitrary _, fun t j => ?_⟩
    have h : ∃ p : Σ t, (r t).shape.Idx, (r p.1).emb p.2 = (r t).emb j := ⟨⟨t, j⟩, rfl⟩
    have e : (fun i => if h : ∃ p : Σ t, (r t).shape.Idx, (r p.1).emb p.2 = i then Y h.choose.1 h.choose.2 else Classical.arbitrary _ : s.Idx → Elt F e) ((r t).emb j)
        = Y h.choose.1 h.choose.2 := dif_pos h
    rw [e]
    have hs := h.choose_spec
    have key : ∀ p : Σ t, (r t).shape.Idx, (r p.1).emb p.2 = (r t).emb j → Y p.1 p.2 = Y t j := by
      rintro ⟨t', j'⟩ hp
      have ht : t' = t := by
        by_contra hne
        have hm : ∀ t (j : (r t).shape.Idx), (r t).emb j ∈ (r t).set := fun t j => by
          rw [← Rect.map_emb_univ]; exact Finset.mem_map_of_mem _ (Finset.mem_univ _)
        exact Finset.disjoint_left.mp (hd t' t hne) (hm t' j') (hp ▸ hm t j)
      subst ht
      exact congrArg (Y t') ((r t').emb.injective hp)
    exact key _ hs
  obtain ⟨X, hX⟩ := hX
  iexists X
  iapply (owns_of_rects (c : Thread nD τ) b fullShare r hr hd hcov X)
  iapply (Entails.of_eq (bigSep_congr (s := Finset.univ) (fun t (_ : t ∈ Finset.univ) =>
    congrArg (fun Z => (has c (b.slice (r t) (hr t)) fullShare Z : sProp 𝕄)) (funext (hX t)).symm)))
  iexact H

end Cut

/-! ## The three ways the buffers are cut -/

theorem mem_rBig (s : Fin 7) (i : S7x512x2048.Idx) : i ∈ (rBig s).set ↔ (i 0).val = s.val := by
  have h1 : (i 1).val < 512 := (i 1).isLt
  have h2 : (i 2).val < 2048 := (i 2).isLt
  rw [Rect.mem_set_unit]
  constructor
  · intro h
    have h0 : s.val ≤ (i 0).val ∧ (i 0).val < s.val + 1 := h 0
    omega
  · intro h a
    fin_cases a
    · show s.val ≤ (i 0).val ∧ (i 0).val < s.val + 1; omega
    · show 0 ≤ (i 1).val ∧ (i 1).val < 0 + 512; omega
    · show 0 ≤ (i 2).val ∧ (i 2).val < 0 + 2048; omega
theorem mem_rSmall (s : Fin 7) (i : S7x8x128.Idx) : i ∈ (rSmall s).set ↔ (i 0).val = s.val := by
  have h1 : (i 1).val < 8 := (i 1).isLt
  have h2 : (i 2).val < 128 := (i 2).isLt
  rw [Rect.mem_set_unit]
  constructor
  · intro h
    have h0 : s.val ≤ (i 0).val ∧ (i 0).val < s.val + 1 := h 0
    omega
  · intro h a
    fin_cases a
    · show s.val ≤ (i 0).val ∧ (i 0).val < s.val + 1; omega
    · show 0 ≤ (i 1).val ∧ (i 1).val < 0 + 8; omega
    · show 0 ≤ (i 2).val ∧ (i 2).val < 0 + 128; omega
theorem mem_rowsO (d : Dev nD) (i : S4096x2048.Idx) : i ∈ (rowsO d).set ↔ (i 0).val / 512 = d.val := by
  have h1 : (i 1).val < 2048 := (i 1).isLt
  rw [Rect.mem_set_unit]
  constructor
  · intro h
    have h0 : 512 * d.val ≤ (i 0).val ∧ (i 0).val < 512 * d.val + 512 := h 0
    omega
  · intro h a
    fin_cases a
    · show 512 * d.val ≤ (i 0).val ∧ (i 0).val < 512 * d.val + 512; omega
    · show 0 ≤ (i 1).val ∧ (i 1).val < 0 + 2048; omega

theorem disj_rBig (s t : Fin 7) (h : s ≠ t) : Disjoint (rBig s).set (rBig t).set :=
  Finset.disjoint_left.mpr fun i hi hj => h (Fin.ext (((mem_rBig s i).mp hi).symm.trans ((mem_rBig t i).mp hj)))
theorem disj_rSmall (s t : Fin 7) (h : s ≠ t) : Disjoint (rSmall s).set (rSmall t).set :=
  Finset.disjoint_left.mpr fun i hi hj => h (Fin.ext (((mem_rSmall s i).mp hi).symm.trans ((mem_rSmall t i).mp hj)))
theorem disj_rowsO (s t : Dev nD) (h : s ≠ t) : Disjoint (rowsO s).set (rowsO t).set :=
  Finset.disjoint_left.mpr fun i hi hj => h (Fin.ext (((mem_rowsO s i).mp hi).symm.trans ((mem_rowsO t i).mp hj)))

theorem cov_rBig : (Finset.univ : Finset (Fin 7)).biUnion (fun s => (rBig s).set) = Finset.univ :=
  Finset.eq_univ_iff_forall.mpr fun i => Finset.mem_biUnion.mpr ⟨i 0, Finset.mem_univ _, (mem_rBig _ i).mpr rfl⟩
theorem cov_rSmall : (Finset.univ : Finset (Fin 7)).biUnion (fun s => (rSmall s).set) = Finset.univ :=
  Finset.eq_univ_iff_forall.mpr fun i => Finset.mem_biUnion.mpr ⟨i 0, Finset.mem_univ _, (mem_rSmall _ i).mpr rfl⟩
theorem cov_rowsO : (Finset.univ : Finset (Dev nD)).biUnion (fun d => (rowsO d).set) = Finset.univ :=
  Finset.eq_univ_iff_forall.mpr fun i => Finset.mem_biUnion.mpr
    ⟨⟨(i 0).val / 512, by have : (i 0).val < 4096 := (i 0).isLt; show _ < 8; omega⟩, Finset.mem_univ _, (mem_rowsO _ i).mpr rfl⟩

variable (m : (ℓ : Loc nD τ sig) → Buf (Elt F) ℓ) (c : Dev nD)

/-- A buffer of seven products, slot by slot, -/
theorem cut_big {e : EltTy} (b : Memref sig .tc .vmem S7x512x2048 e) :
    (some' (F := F) c b : sProp 𝕄) ⊢ bigSep Finset.univ fun s => some' (F := F) c (cutB b s) :=
  some_cut c b rBig (fun _ _ => rfl) disj_rBig cov_rBig
/-- and back. -/
theorem join_big [∀ e, Nonempty (Elt F e)] {e : EltTy} (b : Memref sig .tc .vmem S7x512x2048 e) :
    (bigSep Finset.univ fun s => some' (F := F) c (cutB b s) : sProp 𝕄) ⊢ some' c b :=
  some_join c b rBig (fun _ _ => rfl) disj_rBig cov_rBig
/-- The buffer of seven maxima, slot by slot, -/
theorem cut_small : (some' (F := F) c mR : sProp 𝕄) ⊢ bigSep Finset.univ fun s => some' (F := F) c (cutM s) :=
  some_cut c mR rSmall (fun _ _ => rfl) disj_rSmall cov_rSmall
/-- and back, at the messages that landed. -/
theorem join_small [∀ e, Nonempty (Elt F e)] :
    (bigSep Finset.univ fun s => dmaPay m c 5 s : sProp 𝕄) ⊢ has c mR fullShare (amBuf m c) := by
  refine (Entails.of_eq (bigSep_congr (s := Finset.univ) fun s (_ : s ∈ Finset.univ) => ?_)).trans
    (owns_of_rects (c : Thread nD τ) mR fullShare rSmall (fun _ _ => rfl) disj_rSmall cov_rSmall (amBuf m c))
  rw [amBuf_slot m c s]
  unfold dmaPay
  rfl
/-- The result, the device's own rows and those of the seven others, -/
theorem cut_out : (some' (F := F) c mO : sProp 𝕄)
    ⊢ iprop(some' (F := F) c (cutO c) ∗ bigSep Finset.univ fun s : Fin 7 => some' (F := F) c (cutO (src c s))) := by
  have h := some_cut (F := F) c mO rowsO (fun _ _ => rfl) disj_rowsO cov_rowsO
  rw [bigSep_dev _ c] at h
  exact h
/-- and back, at the result's value. -/
theorem join_out [∀ e, Nonempty (Elt F e)] :
    iprop(has c (cutO c) fullShare (rowsAt m c c) ∗ bigSep Finset.univ fun s : Fin 7 => has c (cutO (src c s)) fullShare (rowsAt m c (src c s)))
      ⊢ (has c mO fullShare (outAt m c) : sProp 𝕄) := by
  have h := owns_of_rects (Ix := Unit) (Name := ℕ) (U := UU) (Lvl := ℕ) (c : Thread nD τ) mO fullShare rowsO (fun _ _ => rfl) disj_rowsO cov_rowsO (outAt m c)
  refine BIBase.Entails.trans (Entails.of_eq ?_) h
  rw [← bigSep_dev (fun d => has c (cutO d) fullShare (rowsAt m c d)) c]
  exact bigSep_congr fun d _ => by rw [← outAt_rows m c d]

/-- Slot by slot in the other order. -/
theorem bigSep_rev {M : Type} [URA M] (Φ : Fin 7 → sProp M) : (bigSep Finset.univ fun s : Fin 7 => Φ s.rev) = bigSep Finset.univ Φ :=
  (bigSep_univ_equiv Fin.revPerm Φ).symm

/-- The landing slots the seven others hand over. -/
theorem bar_slots : (bigSep Finset.univ (barPay (F := F) c) : sProp 𝕄)
    = iprop((bigSep Finset.univ fun s => some' (F := F) (dst c s) (cutB mA s)) ∗ (bigSep Finset.univ fun s => some' (F := F) (dst c s) (cutB mG s))
      ∗ bigSep Finset.univ fun s => some' (F := F) (dst c s) (cutM s)) := by
  rw [← bigSep_rev (barPay c), ← bigSep_sep', ← bigSep_sep']
  refine bigSep_congr fun s _ => ?_
  unfold barPay
  rw [src_rev, Fin.rev_rev]

end Cert.Run

end
-- ==== Proof.Run.Body.lean ====
/-
  The body: from what a device holds at its start to what it holds at its end, pass by pass.
-/
module

public import proofs.«01_k».proof.Proof.Run.Split

@[expose] public section

noncomputable section

namespace Cert.Run

open Idealize.ShloMosaic Idealize.ShloMosaic.TcCoe Idealize.SL Idealize.SL.RA Idealize.SL.BI Idealize.SL.Sem
open Idealize.SL.BI.BIBase Idealize.SL.BI.Laws Idealize.SL.ProofMode
open scoped Idealize.SL.BI
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Cells → ℕ) (c : Dev nD)

/-! ## What a device starts with and what it ends with, slot by slot -/

/-- The rights to signal the seven others. -/
def tokBar : sProp 𝕄 := bigSep Finset.univ fun s : Fin 7 => dutyTok ER (barCell (dst c s)) 0 s
/-- The rights to the device's own cells of array `j`. -/
def tokOwn (j : Fin 6) : sProp 𝕄 := bigSep Finset.univ fun s : Fin 7 => dutyTok ER (dcell c j s) 0 0
/-- The rights to the seven others' cells of array `j`. -/
def tokFar (j : Fin 6) : sProp 𝕄 := bigSep Finset.univ fun s : Fin 7 => dutyTok ER (dcell (dst c s) j s) 0 0
/-- The device's positions at its cells of array `j`. -/
def posAll (j : Fin 6) : sProp 𝕄 := bigSep Finset.univ fun s : Fin 7 => atPos ER (dcell c j s) 0 ∅ 0
/-- The seven credits of its cells of array `j`. -/
def credAll (j : Fin 6) : sProp 𝕄 := bigSep Finset.univ fun s : Fin 7 => outSent (F := F) c j s
/-- Its semaphores of array `j`, at zero. -/
def zeroAll (j : Fin 6) : sProp 𝕄 := bigSep Finset.univ fun s : Fin 7 => semVal (dcell c j s) 0

/-- The positions and the rights a device starts with, -/
def linear : sProp 𝕄 :=
  iprop(atPos ER (barCell c) 0 ∅ 0 ∗ tokBar (F := F) c
    ∗ (posAll (F := F) c 0 ∗ posAll (F := F) c 1 ∗ posAll (F := F) c 2 ∗ posAll (F := F) c 3 ∗ posAll (F := F) c 4 ∗ posAll (F := F) c 5)
    ∗ (tokOwn (F := F) c 0 ∗ tokFar (F := F) c 1 ∗ tokOwn (F := F) c 2 ∗ tokFar (F := F) c 3 ∗ tokOwn (F := F) c 4 ∗ tokFar (F := F) c 5))
/-- and its credits. -/
def credits : sProp 𝕄 :=
  iprop(cred (tallyAt (barCell c) () 7) ∗ credAll (F := F) c 1 ∗ credAll (F := F) c 3 ∗ credAll (F := F) c 5)
/-- All its semaphores at zero. -/
def allZero : sProp 𝕄 :=
  iprop(semVal (barCell c) 0 ∗ zeroAll (F := F) c 0 ∗ zeroAll (F := F) c 1 ∗ zeroAll (F := F) c 2 ∗ zeroAll (F := F) c 3 ∗ zeroAll (F := F) c 4 ∗ zeroAll (F := F) c 5)
/-- Its six scratch buffers, at some values. -/
def scratch : sProp 𝕄 :=
  iprop(some' (F := F) c mS ∗ some' (F := F) c mA ∗ some' (F := F) c mG ∗ some' (F := F) c mQ ∗ some' (F := F) c mM ∗ some' (F := F) c mR)

/-! ## The single steps between the passes -/

theorem step_wait (Kt : PUnit → sProp 𝕄) :
    iprop(records m K ∗ cred (tallyAt (barCell c) () 7) ∗ owing' c (owed1 c) ∗ atPos ER (barCell c) 0 ∅ 0
        ∗ ((owing' c (owed1 c) ∗ semVal (barCell c) 0 ∗ bigSep Finset.univ (barPay (F := F) c)) -∗ Kt ⟨⟩))
      ⊢ WP c (semWaitWord barS 7#32) Kt := by
  simp only [semWaitWord, Prog.lift]
  iintro ⟨#HR, Hc, HO, Hat, Hk⟩
  iapply (wp_wait_bar m K c (owed1 c) (above_owed1 c)) $$ [Hc HO Hat]
  · isplitr; · iexact HR
    isplitl [Hc]; · iexact Hc
    isplitl [HO]; · iexact HO
    iexact Hat
  iintro H
  rw [WP, wp_ret]
  imodintro
  iapply Hk
  iexact H

theorem step_loadX (Kt : Vec F S512x512 .bf16 → sProp 𝕄) :
    iprop(has c mX fullShare (xstg m c) ∗ (has c mX fullShare (xstg m c) -∗ Kt (xrows m c c)))
      ⊢ WP c (Prog.lift (.load mX (rXown c).toLoadRect (View.loadsAt_vmem h_S512x512))) Kt := by
  simp only [Prog.lift]
  iintro ⟨H, Hk⟩
  iapply (wp_load_as c (m := mX) (r := rXown c) fullShare (xstg m c) (xrows m c c) fun j => congrArg (xstg m c) (emb_rXown c j)) $$ H
  iintro H
  rw [WP, wp_ret]
  imodintro
  iapply Hk
  iexact H

theorem step_loadW (Kt : Vec F S512x2048 .bf16 → sProp 𝕄) :
    iprop(has c mW fullShare (wstg m c) ∗ (has c mW fullShare (wstg m c) -∗ Kt (wstg m c)))
      ⊢ WP c (Prog.lift (.load mW rW.toLoadRect (View.loadsAt_vmem h_S512x2048))) Kt := by
  simp only [Prog.lift]
  iintro ⟨H, Hk⟩
  iapply (wp_load_as c (m := mW) (r := rW) fullShare (wstg m c) (wstg m c) fun j => congrArg (wstg m c) (emb_rW j)) $$ H
  iintro H
  rw [WP, wp_ret]
  imodintro
  iapply Hk
  iexact H

theorem step_putMax (a : FVec F S1x512x2048 .f32) (ha : a = absv m c) (Kt : PUnit → sProp 𝕄) :
    iprop(some' (F := F) c mM ∗ (has c mM fullShare (amsg m c) -∗ Kt ⟨⟩)) ⊢ WP c (putMax a) Kt := by
  subst ha
  simp only [putMax, Prog.lift, Prog.bind_op, Prog.bind_ret]
  iintro ⟨⟨%Y, H⟩, Hk⟩
  ihave H' := (Entails.of_eq (has_full c mM zero2 inb_S8x128_S8x128_0_0 fullShare Y)) $$ H
  iapply (wp_load_slot c (m := mM) (fun _ => rfl) fullShare Y) $$ H'
  iintro H
  iapply (wp_store_as c (m := mM) (fun _ => rfl) Y (amsg m c) (show k0_pay17 (absv m c) = amsg m c from rfl)) $$ H
  iintro H
  ihave H' := (Entails.of_eq (has_full c mM zero2 inb_S8x128_S8x128_0_0 fullShare (amsg m c)).symm) $$ H
  rw [WP, wp_ret]
  imodintro
  iapply Hk
  iexact H'

theorem step_putQ (y : FVec F S512x2048 .f32) (hy : y = accv m c) (a : FVec F S1x512x2048 .f32) (ha : a = absv m c) (Kt : F .f32 → sProp 𝕄) :
    iprop(has c mR fullShare (amBuf m c) ∗ some' (F := F) c mQ ∗ some' (F := F) c (cutO c)
        ∗ ((has c mR fullShare (amBuf m c) ∗ has c mQ fullShare (qmsg m c) ∗ has c (cutO c) fullShare (rowsAt m c c)) -∗ Kt (scale m c)))
      ⊢ WP c (putQ c y a) Kt := by
  subst hy ha
  simp only [putQ, Prog.lift, Prog.bind_op, Prog.bind_ret, Prog.pure_eq_ret]
  iintro ⟨HR, ⟨%Y, HQ⟩, ⟨%Z, HO⟩, Hk⟩
  ihave HQ' := (Entails.of_eq (has_full c mQ zero2 inb_S512x2048_S512x2048_0_0 fullShare Y)) $$ HQ
  iapply (wp_load_as c (m := mR) fullShare (amBuf m c) (amBuf m c)
    fun j => congrArg (amBuf m c) (emb_full (s := S7x8x128) zero3 inb_S7x8x128_S7x8x128_0_0_0 j)) $$ HR
  iintro HR
  iapply (wp_load_slot c (m := mQ) (fun _ => rfl) fullShare Y) $$ HQ'
  iintro HQ
  iapply (wp_store_as c (m := mQ) (fun _ => rfl) Y (qmsg m c) (show k0_pay20 (accv m c) (k0_pay16 (absv m c)) (amBuf m c) = qmsg m c from rfl)) $$ HQ
  iintro HQ
  ihave HQ' := (Entails.of_eq (has_full c mQ zero2 inb_S512x2048_S512x2048_0_0 fullShare (qmsg m c)).symm) $$ HQ
  ihave HO' := (Entails.of_eq (has_unit_congr c mO (k0_off3_eq c) (k0_off3_inb c) (inbO c) fullShare Z).symm) $$ HO
  iapply (wp_load_slot c (m := mO) (r := rOown c) (fun _ => rfl) fullShare Z) $$ HO'
  iintro HO
  iapply (wp_store_as c (m := mO) (r := rOown c) (fun _ => rfl) Z (rowsAt m c c) (own_rows m c)) $$ HO
  iintro HO
  ihave HO' := (Entails.of_eq (has_unit_congr c mO (k0_off3_eq c) (k0_off3_inb c) (inbO c) fullShare (rowsAt m c c))) $$ HO
  rw [WP, wp_ret, show k0_pay18 (k0_pay16 (absv m c)) (amBuf m c) = scale m c from rfl]
  imodintro
  iapply Hk
  isplitl [HR]; · iexact HR
  isplitl [HQ']; · iexact HQ'
  iexact HO'

/-! ## Slot-by-slot families, put together and taken apart -/

/-- What the products' pass takes. -/
theorem zip_prod : iprop((bigSep Finset.univ fun s => some' (F := F) c (cutB mS s)) ∗ (bigSep Finset.univ fun s => some' (F := F) (dst c s) (cutB mA s))
      ∗ tokOwn (F := F) c 0 ∗ tokFar (F := F) c 1)
    ⊢ (bigSep Finset.univ (inProd (F := F) c) : sProp 𝕄) := by
  unfold tokOwn tokFar inProd; exact Entails.of_eq (by simp only [bigSep_sep'])
/-- What a pass of waits takes. -/
theorem zip_wait (j j' : Fin 6) : iprop(credAll (F := F) c j ∗ posAll (F := F) c j ∗ credAll (F := F) c j' ∗ posAll (F := F) c j')
    ⊢ (bigSep Finset.univ (inWait (F := F) c j j') : sProp 𝕄) := by
  unfold credAll posAll inWait; exact Entails.of_eq (by simp only [bigSep_sep'])
/-- What the signals' pass takes. -/
theorem zip_sig : iprop(tokBar (F := F) c ∗ some' (F := F) c mA ∗ some' (F := F) c mG ∗ some' (F := F) c mR)
    ⊢ (bigSep Finset.univ (inSig (F := F) c) : sProp 𝕄) := by
  iintro ⟨Ht, HA, HG, HR⟩
  ihave HA' := (cut_big c mA) $$ HA
  ihave HG' := (cut_big c mG) $$ HG
  ihave HR' := (cut_small c) $$ HR
  unfold inSig
  rw [bigSep_sep', bigSep_sep', bigSep_sep', bigSep_rev (fun s => some' (F := F) c (cutB mA s)), bigSep_rev (fun s => some' (F := F) c (cutB mG s)),
    bigSep_rev (fun s => some' (F := F) c (cutM s))]
  unfold tokBar
  isplitl [Ht]; · iexact Ht
  isplitl [HA']; · iexact HA'
  isplitl [HG']; · iexact HG'
  iexact HR'
/-- What the maxima's pass takes. -/
theorem zip_max : iprop(has c mM fullShare (amsg m c) ∗ (bigSep Finset.univ fun s => some' (F := F) (dst c s) (cutM s))
      ∗ tokOwn (F := F) c 4 ∗ tokFar (F := F) c 5)
    ⊢ (bigSep Finset.univ (inMax m c) : sProp 𝕄) := by
  rw [has_shares c mM (amsg m c)]
  unfold tokOwn tokFar inMax; exact Entails.of_eq (by simp only [bigSep_sep'])
/-- What the quantised rows' pass takes. -/
theorem zip_q : iprop(has c mQ fullShare (qmsg m c) ∗ (bigSep Finset.univ fun s => some' (F := F) (dst c s) (cutB mG s))
      ∗ tokOwn (F := F) c 2 ∗ tokFar (F := F) c 3)
    ⊢ (bigSep Finset.univ (inQ m c) : sProp 𝕄) := by
  rw [has_shares c mQ (qmsg m c)]
  unfold tokOwn tokFar inQ; exact Entails.of_eq (by simp only [bigSep_sep'])
/-- What the last pass takes. -/
theorem zip_out : iprop((credAll (F := F) c 2 ∗ posAll (F := F) c 2 ∗ credAll (F := F) c 3 ∗ posAll (F := F) c 3)
      ∗ bigSep Finset.univ fun s : Fin 7 => some' (F := F) c (cutO (src c s)))
    ⊢ (bigSep Finset.univ (fun s => iprop(inWait (F := F) c 2 3 s ∗ some' (F := F) c (cutO (src c s)))) : sProp 𝕄) := by
  unfold credAll posAll inWait; exact Entails.of_eq (by simp only [bigSep_sep'])

/-- What the products' waits give. -/
theorem open_take : (bigSep Finset.univ (fun s => iprop(zeros (F := F) c 0 1 s ∗ dmaPay m c 0 s ∗ dmaPay m c 1 s)) : sProp 𝕄)
    ⊢ iprop(zeroAll (F := F) c 0 ∗ zeroAll (F := F) c 1 ∗ some' (F := F) c mS ∗ some' (F := F) c mA) := by
  unfold zeros
  rw [bigSep_sep', bigSep_sep', bigSep_sep']
  iintro ⟨⟨H0, H1⟩, HS, HA⟩
  unfold zeroAll
  isplitl [H0]; · iexact H0
  isplitl [H1]; · iexact H1
  isplitl [HS]
  · iapply (join_big (F := F) c mS)
    unfold dmaPay
    iexact HS
  iapply (join_big (F := F) c mA)
  have h : ∀ s ∈ (Finset.univ : Finset (Fin 7)), (dmaPay m c 1 s : sProp 𝕄) ⊢ some' (F := F) c (cutB mA s) := by
    intro s _
    unfold dmaPay
    iintro H
    iexists _
    iexact H
  iapply (show (bigSep Finset.univ (fun s => dmaPay m c 1 s) : sProp 𝕄) ⊢ bigSep Finset.univ fun s => some' (F := F) c (cutB mA s) from bigSep_mono h)
  iexact HA
/-- What the maxima's waits give. -/
theorem open_max : (bigSep Finset.univ (fun s => iprop(zeros (F := F) c 4 5 s ∗ dmaPay m c 4 s ∗ dmaPay m c 5 s)) : sProp 𝕄)
    ⊢ iprop(zeroAll (F := F) c 4 ∗ zeroAll (F := F) c 5 ∗ has c mM fullShare (amsg m c) ∗ has c mR fullShare (amBuf m c)) := by
  unfold zeros
  rw [bigSep_sep', bigSep_sep', bigSep_sep', has_shares c mM (amsg m c)]
  iintro ⟨⟨H0, H1⟩, HS, HA⟩
  unfold zeroAll
  isplitl [H0]; · iexact H0
  isplitl [H1]; · iexact H1
  isplitl [HS]
  · unfold dmaPay
    iexact HS
  iapply (join_small m c)
  iexact HA
/-- What the last pass gives. -/
theorem open_out : (bigSep Finset.univ (fun s => iprop(zeros (F := F) c 2 3 s ∗ dmaPay m c 2 s ∗ dmaPay m c 3 s
        ∗ has c (cutO (src c s)) fullShare (rowsAt m c (src c s)))) : sProp 𝕄)
    ⊢ iprop(zeroAll (F := F) c 2 ∗ zeroAll (F := F) c 3 ∗ has c mQ fullShare (qmsg m c) ∗ some' (F := F) c mG
      ∗ bigSep Finset.univ fun s : Fin 7 => has c (cutO (src c s)) fullShare (rowsAt m c (src c s))) := by
  unfold zeros
  rw [bigSep_sep', bigSep_sep', bigSep_sep', bigSep_sep', has_shares c mQ (qmsg m c)]
  iintro ⟨⟨H0, H1⟩, HQ, HG, HO⟩
  unfold zeroAll
  isplitl [H0]; · iexact H0
  isplitl [H1]; · iexact H1
  isplitl [HQ]
  · unfold dmaPay
    iexact HQ
  isplitl [HG]
  · iapply (join_big (F := F) c mG)
    have h : ∀ s ∈ (Finset.univ : Finset (Fin 7)), (dmaPay m c 3 s : sProp 𝕄) ⊢ some' (F := F) c (cutB mG s) := by
      intro s _
      unfold dmaPay
      iintro H
      iexists _
      iexact H
    iapply (show (bigSep Finset.univ (fun s => dmaPay m c 3 s) : sProp 𝕄) ⊢ bigSep Finset.univ fun s => some' (F := F) c (cutB mG s) from bigSep_mono h)
    iexact HG
  iexact HO

/-! ## The whole body -/

/-- A pass that has run to its end owes no more of its family. -/
theorem owe_done (O : Tally) (f : Fin 7 → Tally) : (owing' (F := F) c (O + upTo f 0) : sProp 𝕄) = owing' c O := by rw [upTo_zero, add_zero]

set_option maxHeartbeats 1000000 in
/-- A device that starts with its positions, rights and credits, owing all its sends, runs its body to the end: its
    semaphores are back at zero, it owes nothing, and the result buffer holds `outAt`. -/
theorem body_run (Kt : PUnit → sProp 𝕄) :
    iprop(records m K ∗ linear (F := F) c ∗ credits (F := F) c ∗ owing' (F := F) c (O₀ c) ∗ has c mX fullShare (xstg m c) ∗ has c mW fullShare (wstg m c)
        ∗ some' (F := F) c mO ∗ scratch (F := F) c
        ∗ ((allZero (F := F) c ∗ owing' (F := F) c 0 ∗ has c mX fullShare (xstg m c) ∗ has c mW fullShare (wstg m c)
            ∗ has c mO fullShare (outAt m c) ∗ scratch (F := F) c) -∗ Kt ⟨⟩))
      ⊢ WP c (bodyOn c) Kt := by
  unfold bodyOn linear credits scratch
  simp only [WP, wp_bind]
  iintro ⟨#HR, ⟨HaB, HtB, ⟨Ha0, Ha1, Ha2, Ha3, Ha4, Ha5⟩, Ht0, Ht1, Ht2, Ht3, Ht4, Ht5⟩, ⟨HcB, Hc1, Hc3, Hc5⟩, HO, HX, HW, HD, ⟨HS, HA, HG, HQ, HM, HRm⟩, Hk⟩
  -- the signals
  ihave Hin := (zip_sig (F := F) c) $$ [HtB HA HG HRm]
  · isplitl [HtB]; · iexact HtB
    isplitl [HA]; · iexact HA
    isplitl [HG]; · iexact HG
    iexact HRm
  ihave HO' := (Entails.of_eq (show (owing' (F := F) c (O₀ c) : sProp 𝕄) = atSig (F := F) c 7 from rfl)) $$ HO
  iapply (wp_pass c (records m K) (inSig (F := F) c) (fun _ => iprop(emp)) (atSig (F := F) c) (stepSignal c) (step_signal m K c) _)
  isplitr; · iexact HR
  isplitl [Hin]; · iexact Hin
  isplitl [HO']; · iexact HO'
  iintro ⟨-, HO⟩
  ihave HO' := (Entails.of_eq (owe_done (F := F) c (owed1 c) (oweB c))) $$ HO
  -- the barrier
  iapply (step_wait m K c _)
  isplitr; · iexact HR
  isplitl [HcB]; · iexact HcB
  isplitl [HO']; · iexact HO'
  isplitl [HaB]; · iexact HaB
  iintro ⟨HO, HzB, Hp⟩
  ihave Hp' := (Entails.of_eq (bar_slots (F := F) c)) $$ Hp
  icases Hp' with ⟨HdA, HdG, HdM⟩
  -- the products
  ihave HS' := (cut_big (F := F) c mS) $$ HS
  ihave Hin := (zip_prod (F := F) c) $$ [HS' HdA Ht0 Ht1]
  · isplitl [HS']; · iexact HS'
    isplitl [HdA]; · iexact HdA
    isplitl [Ht0]; · iexact Ht0
    iexact Ht1
  ihave HO' := (Entails.of_eq (show (owing' (F := F) c (owed1 c) : sProp 𝕄) = owing' c (owed2 c + upTo (oweD c 1) 7) from rfl)) $$ HO
  iapply (wp_pass c (records m K) (inProd (F := F) c) (outSent (F := F) c 0) (atProd m c) (stepProd c) (step_prod m K c) _)
  isplitr; · iexact HR
  isplitl [Hin]; · iexact Hin
  isplitl [HX HW HO']
  · isplitl [HX]; · iexact HX
    isplitl [HW]; · iexact HW
    iexact HO'
  iintro ⟨Hc0, HX, HW, HO⟩
  ihave HO' := (Entails.of_eq (owe_done (F := F) c (owed2 c) (oweD c 1))) $$ HO
  -- the device's own rows of `x`, and `w`
  iapply (step_loadX m c _)
  isplitl [HX]; · iexact HX
  iintro HX
  iapply (step_loadW m c _)
  isplitl [HW]; · iexact HW
  iintro HW
  -- the products that land
  ihave Hin := (zip_wait (F := F) c 0 1) $$ [Hc0 Ha0 Hc1 Ha1]
  · isplitl [Hc0]; · unfold credAll; iexact Hc0
    isplitl [Ha0]; · iexact Ha0
    isplitl [Hc1]; · iexact Hc1
    iexact Ha1
  iapply (wp_gather c (records m K) (inWait (F := F) c 0 1) (fun s => iprop(zeros (F := F) c 0 1 s ∗ dmaPay m c 0 s ∗ dmaPay m c 1 s))
    (owing' (F := F) c (owed2 c)) (fun s => part m (src c s) c) stepTake (step_take m K c) _)
  isplitr; · iexact HR
  isplitl [Hin]; · iexact Hin
  isplitl [HO']; · iexact HO'
  iintro ⟨Hb, HO⟩
  ihave Hb' := (open_take m c) $$ Hb
  icases Hb' with ⟨Hz0, Hz1, HS, HA⟩
  -- the device's maximum
  iapply (step_putMax m c (absOf (xrows m c c) (wstg m c) (fun s => part m (src c s) c)) rfl _)
  isplitl [HM]; · iexact HM
  iintro HM
  ihave Hin := (zip_max m c) $$ [HM HdM Ht4 Ht5]
  · isplitl [HM]; · iexact HM
    isplitl [HdM]; · iexact HdM
    isplitl [Ht4]; · iexact Ht4
    iexact Ht5
  ihave HO' := (Entails.of_eq (show (owing' (F := F) c (owed2 c) : sProp 𝕄) = atMax (F := F) c 7 from rfl)) $$ HO
  iapply (wp_pass c (records m K) (inMax m c) (outSent (F := F) c 4) (atMax (F := F) c) (stepMax c) (step_max m K c) _)
  isplitr; · iexact HR
  isplitl [Hin]; · iexact Hin
  isplitl [HO']; · iexact HO'
  iintro ⟨Hc4, HO⟩
  ihave HO' := (Entails.of_eq (owe_done (F := F) c (owed3 c) (oweD c 5))) $$ HO
  ihave Hin := (zip_wait (F := F) c 4 5) $$ [Hc4 Ha4 Hc5 Ha5]
  · isplitl [Hc4]; · unfold credAll; iexact Hc4
    isplitl [Ha4]; · iexact Ha4
    isplitl [Hc5]; · iexact Hc5
    iexact Ha5
  iapply (wp_pass c (records m K) (inWait (F := F) c 4 5) (fun s => iprop(zeros (F := F) c 4 5 s ∗ dmaPay m c 4 s ∗ dmaPay m c 5 s))
    (fun _ => owing' (F := F) c (owed3 c)) stepMaxWait (step_max_wait m K c) _)
  isplitr; · iexact HR
  isplitl [Hin]; · iexact Hin
  isplitl [HO']; · iexact HO'
  iintro ⟨Hb, HO⟩
  ihave Hb' := (open_max m c) $$ Hb
  icases Hb' with ⟨Hz4, Hz5, HM, HRm⟩
  -- the scale, and the device's own rows of the result
  ihave HD' := (cut_out (F := F) c) $$ HD
  icases HD' with ⟨HDc, HDs⟩
  iapply (step_putQ m c (accOf (xrows m c c) (wstg m c) (fun s => part m (src c s) c)) rfl (absOf (xrows m c c) (wstg m c) (fun s => part m (src c s) c)) rfl _)
  isplitl [HRm]; · iexact HRm
  isplitl [HQ]; · iexact HQ
  isplitl [HDc]; · iexact HDc
  iintro ⟨HRm, HQ, HDc⟩
  -- the quantised rows
  ihave Hin := (zip_q m c) $$ [HQ HdG Ht2 Ht3]
  · isplitl [HQ]; · iexact HQ
    isplitl [HdG]; · iexact HdG
    isplitl [Ht2]; · iexact Ht2
    iexact Ht3
  ihave HO' := (Entails.of_eq (show (owing' (F := F) c (owed3 c) : sProp 𝕄) = atQ (F := F) c 7 from rfl)) $$ HO
  iapply (wp_pass c (records m K) (inQ m c) (outSent (F := F) c 2) (atQ (F := F) c) (stepQ c) (step_q m K c) _)
  isplitr; · iexact HR
  isplitl [Hin]; · iexact Hin
  isplitl [HO']; · iexact HO'
  iintro ⟨Hc2, HO⟩
  ihave HO' := (Entails.of_eq (show (atQ (F := F) c 0 : sProp 𝕄) = owing' c 0 from by unfold atQ; rw [upTo_zero])) $$ HO
  ihave Hin := (zip_out (F := F) c) $$ [Hc2 Ha2 Hc3 Ha3 HDs]
  · isplitr [HDs]
    · isplitl [Hc2]; · unfold credAll; iexact Hc2
      isplitl [Ha2]; · iexact Ha2
      isplitl [Hc3]; · iexact Hc3
      iexact Ha3
    iexact HDs
  iapply (wp_pass c (records m K) (fun s => iprop(inWait (F := F) c 2 3 s ∗ some' (F := F) c (cutO (src c s))))
    (fun s => iprop(zeros (F := F) c 2 3 s ∗ dmaPay m c 2 s ∗ dmaPay m c 3 s ∗ has c (cutO (src c s)) fullShare (rowsAt m c (src c s))))
    (fun _ => owing' (F := F) c 0) (stepOut c (scale m c)) (step_out m K c) _)
  isplitr; · iexact HR
  isplitl [Hin]; · iexact Hin
  isplitl [HO']; · iexact HO'
  iintro ⟨Hb, HO⟩
  ihave Hb' := (open_out m c) $$ Hb
  icases Hb' with ⟨Hz2, Hz3, HQ, HG, HDs⟩
  ihave HD := (join_out m c) $$ [HDc HDs]
  · isplitl [HDc]; · iexact HDc
    iexact HDs
  iapply Hk
  unfold allZero
  isplitl [HzB Hz0 Hz1 Hz2 Hz3 Hz4 Hz5]
  · isplitl [HzB]; · iexact HzB
    isplitl [Hz0]; · iexact Hz0
    isplitl [Hz1]; · iexact Hz1
    isplitl [Hz2]; · iexact Hz2
    isplitl [Hz3]; · iexact Hz3
    isplitl [Hz4]; · iexact Hz4
    iexact Hz5
  isplitl [HO]; · iexact HO
  isplitl [HX]; · iexact HX
  isplitl [HW]; · iexact HW
  isplitl [HD]; · iexact HD
  isplitl [HS]; · iexact HS
  isplitl [HA]; · iexact HA
  isplitl [HG]; · iexact HG
  isplitl [HQ]; · iexists _; iexact HQ
  isplitl [HM]; · iexists _; iexact HM
  iexists _; iexact HRm

end Cert.Run

end
-- ==== Proof.Run.Ghost.lean ====
/-
  The exchange's ghost state at launch: its cells and duty tokens minted, every cell's invariant allocated, the tokens
  dealt to the devices that pay with them, and the credits each device starts with.
-/
module

public import proofs.«01_k».proof.Proof.Run.Body

@[expose] public section

noncomputable section

namespace Cert.Run

open Idealize.ShloMosaic Idealize.ShloMosaic.TcCoe Idealize.SL Idealize.SL.RA Idealize.SL.BI Idealize.SL.Sem
open Idealize.SL.BI.BIBase Idealize.SL.BI.Laws Idealize.SL.ProofMode
open scoped Idealize.SL.BI
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## Families over the cells -/

theorem bigSep_six {M : Type} [URA M] (Φ : Fin 6 → sProp M) :
    bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- A family over an optional index: its member at nothing and those at something. -/
theorem bigSep_opt {M : Type} [URA M] {I : Type} [Fintype I] [DecidableEq I] (Φ : Option I → sProp M) :
    bigSep Finset.univ Φ = iprop(Φ none ∗ bigSep Finset.univ fun i => Φ (some i)) := by
  have h : (Finset.univ : Finset (Option I)).erase none = Finset.univ.map Function.Embedding.some := by
    ext o
    rw [Finset.mem_erase, Finset.mem_map]
    refine ⟨fun ho => ?_, ?_⟩
    · rcases o with _ | i
      · exact absurd rfl ho.1
      · exact ⟨i, Finset.mem_univ _, rfl⟩
    · rintro ⟨i, -, rfl⟩
      exact ⟨fun h' => Option.some_ne_none i h', Finset.mem_univ _⟩
  rw [bigSep_univ_at _ none, h, bigSep_map]
  rfl

/-- A family over a device's cells: the barrier's member and the six arrays'. -/
theorem bigSep_cells {M : Type} [URA M] (Φ : Option (Fin 6 × Fin 7) → sProp M) :
    bigSep Finset.univ Φ = iprop(Φ none ∗ (bigSep Finset.univ fun s => Φ (some (0, s))) ∗ (bigSep Finset.univ fun s => Φ (some (1, s)))
      ∗ (bigSep Finset.univ fun s => Φ (some (2, s))) ∗ (bigSep Finset.univ fun s => Φ (some (3, s)))
      ∗ (bigSep Finset.univ fun s => Φ (some (4, s))) ∗ (bigSep Finset.univ fun s => Φ (some (5, s)))) := by
  rw [bigSep_opt, bigSep_univ_prod, bigSep_six]

/-- All devices' slots, each renamed to the device the slot's exchange goes to. -/
def pairs : Dev nD × Fin 7 ≃ Dev nD × Fin 7 :=
  ⟨fun p => (dst p.1 p.2, p.2), fun p => (src p.1 p.2, p.2), fun p => Prod.ext (src_dst p.1 p.2) rfl, fun p => Prod.ext (dst_src p.1 p.2) rfl⟩

theorem around {M : Type} [URA M] (Φ : Dev nD → Fin 7 → sProp M) :
    (bigSep Finset.univ fun c : Dev nD => bigSep Finset.univ fun s : Fin 7 => Φ c s)
      = bigSep Finset.univ fun c : Dev nD => bigSep Finset.univ fun s : Fin 7 => Φ (dst c s) s := by
  rw [← bigSep_univ_prod (fun p : Dev nD × Fin 7 => Φ p.1 p.2), bigSep_univ_equiv pairs, bigSep_univ_prod]
  rfl

/-! ## Minting -/

def ringCells : Finset (GSem nD τ sig) := Finset.univ.map ⟨kcell, kcell_injective⟩

/-- The duty tokens as minted: seven at each device's barrier, one at each of its other cells. -/
def tokOf : Dev nD × Option (Fin 6) × Fin 7 → GSem nD τ sig × ℕ × Fin 7
  | (c, none, s) => (barCell c, 0, s)
  | (c, some j, s) => (dcell c j s, 0, 0)

theorem tokOf_injective : Function.Injective tokOf := by
  rintro ⟨c, _ | j, s⟩ ⟨c', _ | j', s'⟩ h
  · have h1 : c = c' := congrArg (fun x : GSem nD τ sig × ℕ × Fin 7 => x.1.1.1) h
    have h2 : s = s' := congrArg (fun x : GSem nD τ sig × ℕ × Fin 7 => x.2.2) h
    rw [h1, h2]
  · exact absurd (congrArg (fun x : GSem nD τ sig × ℕ × Fin 7 => x.1.2) h) (fun h' => by cases h')
  · exact absurd (congrArg (fun x : GSem nD τ sig × ℕ × Fin 7 => x.1.2) h) (fun h' => by cases h')
  · have h1 : (c, (some (j, s) : Option (Fin 6 × Fin 7))) = (c', some (j', s')) :=
      kcell_injective (congrArg (fun x : GSem nD τ sig × ℕ × Fin 7 => x.1) h)
    injection h1 with ha hb
    injection hb with hb
    injection hb with hb hc
    rw [ha, hb, hc]
def ringToks : Finset (GSem nD τ sig × ℕ × Fin 7) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun s : Fin 7 => dutyTok ER (barCell c) 0 s) ∗ tokOwn (F := F) c 0 ∗ tokOwn (F := F) c 1 ∗ tokOwn (F := F) c 2
    ∗ tokOwn (F := F) c 3 ∗ tokOwn (F := F) c 4 ∗ tokOwn (F := F) c 5)

/-- What the launch deals device `c`. -/
def G (c : Dev nD) : sProp 𝕄 :=
  iprop((bigSep Finset.univ fun k : Option (Fin 6 × Fin 7) => roundState ER (ringRd m) (kcell (c, k)) 0)
    ∗ (bigSep Finset.univ fun k : Option (Fin 6 × Fin 7) => iprop(atPos ER (kcell (c, k)) 0 ∅ 0 ∗ reached ER (kcell (c, k)) 0)) ∗ toks (F := F) c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Option (Fin 6 × Fin 7) => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    exact bigSep_congr fun c _ => by unfold toks tokOwn; rw [bigSep_univ_prod, bigSep_opt, bigSep_six]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Allocating the cells -/

/-- The kernel's own semaphores and the barrier, at zero, are the cells' counters. -/
theorem unscoped_eq (c : Dev nD) : (unscopedSems0 c : sProp 𝕄) = semVal (barCell c) 0 := by
  unfold unscopedSems0; rw [bigSep_eq_bigSepL_of_eq [SemLoc.reg barS] (by decide) (by decide)]; rfl

theorem sems_eq (c : Dev nD) :
    (iprop(Pipeline.ownSems0 (Ix := Unit) (Name := ℕ) (U := UU) (Lvl := ℕ) (Val := Elt F) (τ := τ) osem c ∗ unscopedSems0 c) : sProp 𝕄)
      ⊢ bigSep Finset.univ fun k : Option (Fin 6 × Fin 7) => semVal (kcell (c, k)) 0 := by
  rw [unscoped_eq, bigSep_opt]
  unfold Pipeline.ownSems0
  iintro ⟨H1, H2⟩
  isplitl [H2]; · iexact H2
  iexact H1

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems_eq (F := F) c) $$ [Hos Hus]
  · isplitl [Hos] <;> iassumption
  imod (show iprop((bigSep Finset.univ fun k : Option (Fin 6 × Fin 7) => semVal (kcell (c, k)) 0) ∗ bigSep Finset.univ fun k : Option (Fin 6 × Fin 7) => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing -/

/-- The rights dealt to the devices that use them: those to a barrier and to a landing cell go to the device that
    signals it or sends there. -/
theorem deal : (bigSep Finset.univ fun c : Dev nD => (toks (F := F) c : sProp 𝕄))
    ⊢ bigSep Finset.univ fun c : Dev nD => iprop(tokBar (F := F) c
      ∗ (tokOwn (F := F) c 0 ∗ tokFar (F := F) c 1 ∗ tokOwn (F := F) c 2 ∗ tokFar (F := F) c 3 ∗ tokOwn (F := F) c 4 ∗ tokFar (F := F) c 5)) := by
  have h : ∀ j, (bigSep Finset.univ fun c : Dev nD => (tokOwn (F := F) c j : sProp 𝕄)) = bigSep Finset.univ fun c : Dev nD => tokFar (F := F) c j := fun j => by
    unfold tokOwn tokFar
    exact around fun c s => dutyTok ER (dcell c j s) 0 0
  have hB : (bigSep Finset.univ fun c : Dev nD => (bigSep Finset.univ fun s : Fin 7 => dutyTok ER (barCell c) 0 s : sProp 𝕄))
      = bigSep Finset.univ fun c : Dev nD => tokBar (F := F) c := by
    unfold tokBar
    exact around fun c s => dutyTok ER (barCell c) 0 s
  unfold toks
  simp only [bigSep_sep']
  rw [hB, h 1, h 3, h 5]

/-- What the global step makes of all that, on device `c`. -/
def G' (c : Dev nD) : sProp 𝕄 :=
  iprop(∃ K : Cells → ℕ, ((bigSep Finset.univ fun ck : Cells => cellInv ER (ringRd m) (K ck) (kcell ck))
    ∗ (bigSep Finset.univ fun ck : Cells => reached ER (kcell ck) 0)) ∗ linear (F := F) c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem linear_intro (c : Dev nD) :
    iprop((bigSep Finset.univ fun k : Option (Fin 6 × Fin 7) => atPos ER (kcell (c, k)) 0 ∅ 0) ∗ tokBar (F := F) c
        ∗ (tokOwn (F := F) c 0 ∗ tokFar (F := F) c 1 ∗ tokOwn (F := F) c 2 ∗ tokFar (F := F) c 3 ∗ tokOwn (F := F) c 4 ∗ tokFar (F := F) c 5))
      ⊢ (linear (F := F) c : sProp 𝕄) := by
  rw [bigSep_cells]
  unfold linear posAll
  iintro ⟨⟨HB, H⟩, Ht, Ht'⟩
  isplitl [HB]; · iexact HB
  isplitl [Ht]; · iexact Ht
  isplitl [H]; · iexact H
  iexact Ht'

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Cells => iprop(∃ κ : ℕ, cellInv ER (ringRd m) κ (kcell ck))),
    bigSep_congr (s := Finset.univ) (fun (c : Dev nD) _ => bigSep_sep' Finset.univ (fun k : Option (Fin 6 × Fin 7) => (atPos ER (kcell (c, k)) 0 ∅ 0 : sProp 𝕄)) (fun k => reached ER (kcell (c, k)) 0)),
    bigSep_sep', ← bigSep_univ_prod (fun ck : Cells => (reached ER (kcell ck) 0 : sProp 𝕄))]
  iintro ⟨HI, ⟨Hat, #HR⟩, Htok⟩
  ihave HK := (BI.bigSep_exists_pi Finset.univ (fun (ck : Cells) (κ : ℕ) => (cellInv ER (ringRd m) κ (kcell ck) : sProp 𝕄))) $$ HI
  icases HK with ⟨%K, #HI⟩
  ihave Htk := (deal (F := F)) $$ Htok
  iapply (with_persistent (R := iprop((bigSep Finset.univ fun ck : Cells => cellInv ER (ringRd m) (K ck) (kcell ck))
      ∗ (bigSep Finset.univ fun ck : Cells => reached ER (kcell ck) 0))) (Φ := fun c => linear (F := F) c) (Ψ := G' m) fun c _ => by
    unfold G'
    iintro ⟨H, H'⟩
    iexists K
    isplitl [H] <;> iassumption)
  isplitr
  · isplitl; · iexact HI
    iexact HR
  · have hl := (Entails.of_eq (bigSep_sep' (Finset.univ : Finset (Dev nD)) (fun c => bigSep Finset.univ fun k : Option (Fin 6 × Fin 7) => (atPos ER (kcell (c, k)) 0 ∅ 0 : sProp 𝕄))
        (fun c => iprop(tokBar (F := F) c
          ∗ (tokOwn (F := F) c 0 ∗ tokFar (F := F) c 1 ∗ tokOwn (F := F) c 2 ∗ tokFar (F := F) c 3 ∗ tokOwn (F := F) c 4 ∗ tokFar (F := F) c 5)))).symm).trans
      (bigSep_mono fun c _ => linear_intro (F := F) c)
    iapply hl
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits at launch -/

/-- Summed over the devices, a family of single units of the slots' devices is one unit per slot. -/
theorem sum_units (f : Dev nD → Fin 7 → Tally) (g : GSem nD τ sig) :
    (∑ d : Dev nD, upTo (fun s => f (dst d s) s) 7 g ()) = ∑ d : Dev nD, ∑ s : Fin 7, f d s g () := by
  have h : ∀ d : Dev nD, upTo (fun s => f (dst d s) s) 7 g () = ∑ s : Fin 7, f (dst d s) s g () := fun d => by
    rw [upTo_seven, Finset.sum_apply, Finsupp.finsetSum_apply]
  rw [Finset.sum_congr rfl fun d _ => h d, ← Fintype.sum_prod_type' (fun d s => f d s g ()), ← Fintype.sum_prod_type' (fun d s => f (dst d s) s g ())]
  exact Equiv.sum_comp pairs fun p => f p.1 p.2 g ()

theorem launch_dma (j : Fin 6) (c : Dev nD) (s : Fin 7) :
    tallyOn (dcell c j s) (launchCredit (Pipeline.owing fun d => upTo (oweD d j) 7) 0 (dcell c j s)) = (tallyAt (dcell c j s) () (amt j) : Tally) := by
  unfold tallyAt
  refine congrArg _ (Finsupp.ext fun u => ?_)
  cases u
  rw [Pipeline.launchCredit_owing, Finsupp.single_eq_same]
  refine (sum_units (fun d s => tallyAt (dcell d j s) () (amt j)) (dcell c j s)).trans ?_
  rw [Finset.sum_eq_single c, Finset.sum_eq_single s]
  · rw [tallyAt_apply, if_pos ⟨rfl, rfl⟩]
  · intro s' _ hs
    rw [tallyAt_apply, if_neg fun h => hs ?_]
    have h1 : (c, (some (j, s) : Option (Fin 6 × Fin 7))) = (c, some (j, s')) := kcell_injective h.1
    injection h1 with _ h1
    injection h1 with h1
    injection h1 with _ h1
    exact h1.symm
  · exact fun h => absurd (Finset.mem_univ s) h
  · intro d _ hd
    refine Finset.sum_eq_zero fun s' _ => ?_
    rw [tallyAt_apply, if_neg fun h => hd ?_]
    exact (congrArg (fun g : GSem nD τ sig => g.1.1) h.1).symm
  · exact fun h => absurd (Finset.mem_univ c) h

theorem launch_bar (c : Dev nD) :
    tallyOn (barCell c) (launchCredit (Pipeline.owing fun d => upTo (oweB d) 7) 0 (barCell c)) = (tallyAt (barCell c) () 7 : Tally) := by
  unfold tallyAt
  refine congrArg _ (Finsupp.ext fun u => ?_)
  cases u
  rw [Pipeline.launchCredit_owing, Finsupp.single_eq_same]
  refine (sum_units (fun d _ => tallyAt (barCell d) () 1) (barCell c)).trans ?_
  rw [Finset.sum_eq_single c]
  · rw [Finset.sum_congr rfl fun s _ => (tallyAt_apply (barCell c) () 1 (barCell c) ()).trans (if_pos ⟨rfl, rfl⟩)]
    rfl
  · intro d _ hd
    refine Finset.sum_eq_zero fun s' _ => ?_
    rw [tallyAt_apply, if_neg fun h => hd ?_]
    exact (congrArg (fun g : GSem nD τ sig => g.1.1) h.1).symm
  · exact fun h => absurd (Finset.mem_univ c) h

theorem creds_dma (j : Fin 6) (c : Dev nD) : (Pipeline.launchCred (fun d => upTo (oweD d j) 7) c : sProp 𝕄) ⊢ credAll (F := F) c j := by
  have hinj : Function.Injective fun s : Fin 7 => osem (j, s) := fun s s' h => congrArg Prod.snd (osem_inj h)
  unfold Pipeline.launchCred credAll
  refine (bigSep_subset (Finset.subset_univ (Finset.univ.map ⟨fun s : Fin 7 => osem (j, s), hinj⟩))).trans ?_
  rw [bigSep_map]
  exact Entails.of_eq (bigSep_congr fun s _ => congrArg cred (launch_dma j c s))

theorem creds (c : Dev nD) : (Pipeline.launchCred O₀ c : sProp 𝕄) ⊢ credits (F := F) c := by
  have e : (O₀ : Dev nD → Tally) = fun d => ((upTo (oweD d 3) 7 + upTo (oweD d 5) 7) + upTo (oweD d 1) 7) + upTo (oweB d) 7 := rfl
  rw [e, Pipeline.launchCred_add (fun d => (upTo (oweD d 3) 7 + upTo (oweD d 5) 7) + upTo (oweD d 1) 7) (fun d => upTo (oweB d) 7),
    Pipeline.launchCred_add (fun d => upTo (oweD d 3) 7 + upTo (oweD d 5) 7) (fun d => upTo (oweD d 1) 7),
    Pipeline.launchCred_add (fun d => upTo (oweD d 3) 7) (fun d => upTo (oweD d 5) 7)]
  unfold credits
  iintro ⟨⟨⟨H3, H5⟩, H1⟩, HB⟩
  isplitl [HB]
  · rw [← launch_bar]
    iapply (Pipeline.launchCred_elim (fun d => upTo (oweB d) 7) c (SemLoc.reg barS))
    iexact HB
  isplitl [H1]; · iapply (creds_dma (F := F) 1 c); iexact H1
  isplitl [H3]; · iapply (creds_dma (F := F) 3 c); iexact H3
  iapply (creds_dma (F := F) 5 c)
  iexact H5

end Cert.Run

end
-- ==== Proof.Run.Run.lean ====
/-
  The run: at any values, from any memory with every semaphore at zero, every weakly fair execution of the eight devices
  ends with each device's result array at `outAt`, its arguments as they were, and every semaphore at zero.
-/
module

public import proofs.«01_k».proof.Proof.Run.Ghost
public import Idealize.ShloMosaic.Lib.Pipeline.CollectiveSegs

@[expose] public section

noncomputable section

namespace Cert.Run

open Idealize.ShloMosaic Idealize.ShloMosaic.TcCoe Idealize.SL Idealize.SL.RA Idealize.SL.BI Idealize.SL.Sem
open Idealize.SL.BI.BIBase Idealize.SL.BI.Laws Idealize.SL.ProofMode
open scoped Idealize.SL.BI
open Idealize.ShloMosaic.Rounds Idealize.ShloMosaic.Pipeline
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-- What a device's body starts from besides its buffers: positions, rights, what all devices know, credits. -/
def start (c : Dev nD) : sProp 𝕄 := iprop((G' m c ∗ levAts L lv) ∗ credits (F := F) c)

def Φ₀ (c : Dev nD) : sProp 𝕄 := iprop(start m c ∗ scratch (F := F) c)
/-- What it leaves. -/
def Φ₁ (c : Dev nD) : sProp 𝕄 := iprop(allZero (F := F) c ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev t₀ : Fin cfg0.N := t0_0

/-! ## The body, as the launch asks for it -/

def bodyPre (c : Dev nD) : sProp 𝕄 :=
  iprop(Φ₀ m c ∗ (dats m ρ 0 c).owesAt () t₀.castSucc
    ∗ (∃ d, has c mX fullShare ((dats m ρ 0 c).before (0 : Fin 3) t₀ d))
    ∗ (∃ d, has c mW fullShare ((dats m ρ 0 c).before (1 : Fin 3) t₀ d))
    ∗ (∃ d, has c mO fullShare ((dats m ρ 0 c).before (2 : Fin 3) t₀ d)))

def bodyPost (c : Dev nD) : sProp 𝕄 :=
  iprop(Φ₁ c ∗ (dats m ρ 0 c).owesAt () t₀.succ ∗ has c mX fullShare (xstg m c) ∗ has c mW fullShare (wstg m c) ∗ has c mO fullShare (outAt m c))

theorem before_x (c : Dev nD) (d) : (dats (F := F) m ρ 0 c).before (0 : Fin 3) t₀ d = xstg m c := by
  unfold Dat.before; rw [if_pos (fetch0_0 t₀)]; rfl
theorem before_w (c : Dev nD) (d) : (dats (F := F) m ρ 0 c).before (1 : Fin 3) t₀ d = wstg m c := by
  unfold Dat.before; rw [if_pos (fetch0_1 t₀)]; rfl

theorem sound (c : Dev nD) :
    bodyPre m ρ c ⊢ WP c (Prog.lift .deviceId >>= fun c => bodyOn c) (fun _ => bodyPost m ρ c) := by
  simp only [Prog.lift, Prog.bind_op, Prog.bind_ret, WP, wp_deviceId]
  unfold bodyPre Φ₀ start G'
  iintro ⟨⟨⟨⟨⟨%K, ⟨#HI, #HR⟩, Hl⟩, #Hlev⟩, Hc⟩, Hs⟩, Ho, ⟨%d0, Hx⟩, ⟨%d1, Hw⟩, ⟨%d2, Hout⟩⟩
  unfold Dat.owesAt Pipeline.owesWithin
  icases Ho with ⟨%W, %hW, HO⟩
  ihave Hx' := (Entails.of_eq (congrArg (fun X => (has c mX fullShare X : sProp 𝕄)) (before_x m ρ c d0))) $$ Hx
  ihave Hw' := (Entails.of_eq (congrArg (fun X => (has c mW fullShare X : sProp 𝕄)) (before_w m ρ c d1))) $$ Hw
  iapply (body_run m K c _)
  isplitr
  · unfold records
    isplitr; · iexact HI
    isplitr; · iexact HR
    iexact Hlev
  isplitl [Hl]; · iexact Hl
  isplitl [Hc]; · iexact Hc
  isplitl [HO]
  · unfold owing'
    iexists W
    iexact HO
  isplitl [Hx']; · iexact Hx'
  isplitl [Hw']; · iexact Hw'
  isplitl [Hout]; · iexists _; iexact Hout
  isplitl [Hs]; · iexact Hs
  iintro ⟨Hz, HO, Hx, Hw, Hout, Hs⟩
  unfold bodyPost Φ₁ owing'
  icases HO with ⟨%W', HO⟩
  isplitl [Hz Hs]
  · isplitl [Hz]; · iexact Hz
    iexact Hs
  isplitl [HO]
  · unfold Dat.owesAt Pipeline.owesWithin
    iexists W'
    isplitr; · ipureintro; exact fun _ _ => Or.inl trivial
    iexact HO
  isplitl [Hx]; · iexact Hx
  isplitl [Hw]; · iexact Hw
  iexact Hout

set_option maxRecDepth 8000 in
/-- The library's body obligation on device `c`. -/
theorem body_obligation (c : Dev nD) : BodyObligation (dats (F := F) m ρ 0 c) (defs₀ (F := F)) 𝒱₀ () Set.univ := fun t => by
  rw [show t = t₀ from fin_N0 t]
  rw [show (bigSep (Finset.univ : Finset (Fin cfg0.W)) : (Fin cfg0.W → sProp 𝕄) → sProp 𝕄)
      = fun Φ => iprop(Φ (0 : Fin 3) ∗ Φ (1 : Fin 3) ∗ Φ (2 : Fin 3)) from funext fun Φ => bigSep_W0 Φ]
  have h := sound m ρ c
  rw [← body_eq] at h
  exact h

/-! ## The launch -/

theorem ownSemFacts : Pipeline.OwnSemFacts cfg0.spec osem := by decide +kernel

theorem share_eq (c : Dev nD) (w : Fin cfg0.W) : (dats m ρ 0 c).share w = fullShare := by unfold Dat.share; split <;> rfl

theorem scratch_eq (c : Dev nD) :
    (Pipeline.scopedRest (Ix := Unit) (Name := ℕ) (U := UU) (Lvl := ℕ) (Val := Elt F) cfg0.spec c : sProp 𝕄) = scratch (F := F) c := by
  have h : ∀ b : Ref sig .tc, (iprop(∃ f : Buf (Elt F) ((c : Thread nD τ).loc b), ((c : Thread nD τ).loc b) ↦{fullShare} f) : sProp 𝕄)
      = iprop(∃ f : b.ty.Contents (Elt F), owns (c : Thread nD τ) (Memref.whole b) fullShare f) := fun b => by
    refine congrArg _ (funext fun f => ?_)
    exact (owns_whole (Ix := Unit) (Name := ℕ) (U := UU) (Lvl := ℕ) (c : Thread nD τ) b fullShare f).symm
  rw [show (Pipeline.scopedRest (Ix := Unit) (Name := ℕ) (U := UU) (Lvl := ℕ) (Val := Elt F) cfg0.spec c : sProp 𝕄) = _ from scopedRest0_eq c,
    h cc0_scratch0, h cc0_scratch1, h cc0_scratch2, h cc0_scratch3, h cc0_scratch4, h cc0_scratch5]
  rfl

theorem zeros_eq (c : Dev nD) :
    (allZero (F := F) c : sProp 𝕄) ⊢ iprop(unscopedSems0 c ∗ Pipeline.ownSems0 (Ix := Unit) (Name := ℕ) (U := UU) (Lvl := ℕ) (Val := Elt F) (τ := τ) osem c) := by
  rw [unscoped_eq]
  unfold Pipeline.ownSems0 allZero zeroAll
  rw [bigSep_univ_prod, bigSep_six]

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitr [Hc]
    · isplitl [HG]; · iexact HG
      iexact Hlev
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq]
  unfold Φ₁
  iintro ⟨Hz, Hr⟩
  ihave Hz' := (zeros_eq (F := F) c) $$ Hz
  icases Hz' with ⟨H1, H2⟩
  isplitl [H1]; · iexact H1
  isplitl [H2]; · iexact H2
  iexact Hr

theorem waits (c : Dev nD) : (levAts L lv : sProp 𝕄) ⊢ Pipeline.cellsWaits cfgs (dats m ρ) () 0 c :=
  Pipeline.cellsWaits_intro cfgs (dats m ρ) () 0 c fun w s t =>
    mayWait c _ 0 (by fin_cases w <;> fin_cases s <;> exact Nat.le_of_eq rfl) _ (by
      rcases t with ⟨_ | _, ht⟩
      · exact above_O₀ c
      · exact above_zero 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every weakly fair execution of the eight devices ends, with every window's array at what the library computes and
    every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays end as they began, -/
theorem finalA_x (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

/-- THE FRAME, at any values: the arguments unchanged, every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h.1 c (0 : Fin 3)).trans (finalA_x m ρ c), (h.1 c (1 : Fin 3)).trans (finalA_w m ρ c)⟩, h.2⟩)
    (run_main m ρ)

end Cert.Run

end
-- ==== Proof.Value.Final.lean ====
/-
  The arrays around the run: every window is one block, the whole of its array, so what a device finds staged is its
  argument and what it leaves staged is its result.
-/
module

public import proofs.«01_k».proof.Proof.Run.Run
public import Idealize.ShloMosaic.Lib.Pipeline.Value

@[expose] public section

noncomputable section

namespace Cert.Value

open Idealize.ShloMosaic Idealize.ShloMosaic.TcCoe Idealize.SL.Sem
open Idealize.ShloMosaic.Pipeline (Dat)
open Cert.KernelIdeal Cert.KernelIdeal.Gen Cert.Run

variable {F : FTy → Type} [FloatOps F]
variable (m : (ℓ : Loc nD τ sig) → Buf (Elt F) ℓ) (ρ : Dev nD → PrngReg)

/-- An index of a window's one block is that index of the array: the block of `x`, -/
theorem emb_x (t : Fin cfg0.N) (j : S4096x512.Idx) : (win0_0.blk t).view.emb j = j := by
  funext a; apply Fin.ext
  fin_cases a
  · show 0 * 4096 + 1 * (j 0).val = (j 0).val; omega
  · show 0 * 512 + 1 * (j 1).val = (j 1).val; omega

/-- the block of `w`, -/
theorem emb_w (t : Fin cfg0.N) (j : S512x2048.Idx) : (win0_1.blk t).view.emb j = j := by
  funext a; apply Fin.ext
  fin_cases a
  · show 0 * 512 + 1 * (j 0).val = (j 0).val; omega
  · show 0 * 2048 + 1 * (j 1).val = (j 1).val; omega

/-- the block of the result. -/
theorem emb_o (t : Fin cfg0.N) (j : S4096x2048.Idx) : (win0_2.blk t).view.emb j = j := by
  funext a; apply Fin.ext
  fin_cases a
  · show 0 * 4096 + 1 * (j 0).val = (j 0).val; omega
  · show 0 * 2048 + 1 * (j 1).val = (j 1).val; omega

/-- What is staged of `x` is the argument. -/
theorem xstg_eq (c : Dev nD) : xstg m c = m ((c : Thread nD τ).loc main_arg0) := by
  funext j
  exact congrArg (m ((c : Thread nD τ).loc main_arg0)) (emb_x t₀ j)

/-- What is staged of `w` is the argument. -/
theorem wstg_eq (c : Dev nD) : wstg m c = m ((c : Thread nD τ).loc main_arg1) := by
  funext j
  exact congrArg (m ((c : Thread nD τ).loc main_arg1)) (emb_w t₀ j)

/-- What the one point writes back is the whole of `outAt`. -/
theorem flushed_o (c : Dev nD) (t : Fin cfg0.N) :
    (dats m ρ 0 c).flushed 2 t = ((cfg0.win 2).blk t).view.read (Elt F) (outAt m c) := by
  funext j
  show outAt m c j = outAt m c ((win0_2.blk t).view.emb j)
  rw [emb_o]

/-- The one block covers the array. -/
theorem covered_o (i : S4096x2048.Idx) : ∃ t : Fin cfg0.N, (cfg0.win 2).flush t = true ∧ i ∈ ((cfg0.win 2).blk t).view.set :=
  ⟨t₀, flush0_2 _, by have h := ((cfg0.win 2).blk t₀).view.emb_mem_set i; rwa [emb_o] at h⟩

/-- The result array after the run. -/
theorem finalA_out (c : Dev nD) : finalA m ρ c (2 : Fin 3) = outAt m c :=
  (dats m ρ 0 c).arrAt_eq_of_cover 2 (outAt m c) (fun t _ => flushed_o m ρ c t) covered_o

/-- THE RUN, read: each device's result is `outAt`, its arguments are as launched. -/
theorem run_out : θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h.1 c (2 : Fin 3)).trans (finalA_out m ρ c),
      (h.1 c (0 : Fin 3)).trans (finalA_x m ρ c), (h.1 c (1 : Fin 3)).trans (finalA_w m ρ c)⟩)
    (run_main m ρ)

end Cert.Value

end
-- ==== Proof.Value.Scale.lean ====
/-
  Scalars: the two constants of the quantiser, the greatest element of a block, and why clipping after a division by the
  scale changes nothing once the quotient is multiplied by the scale again.
-/
module

public import Idealize.ShloMosaic.Lib.Pointwise
public import Idealize.ShloMosaic.PureOps.Ideal.Laws

@[expose] public section

noncomputable section

namespace Cert.Value

open Idealize.ShloMosaic

/-- The greatest finite e4m3 number, as the programs print it, -/
theorem word_448 : Ideal.ofBits .f32 0x43E00000#32 = ((448 : ℝ) : EReal) := by
  simp [Ideal.ofBits, Ideal.ieee]; norm_num [← EReal.coe_mul]
/-- its negative, -/
theorem word_neg448 : Ideal.ofBits .f32 0xC3E00000#32 = ((-448 : ℝ) : EReal) := by
  simp [Ideal.ofBits, Ideal.ieee]; norm_num [← EReal.coe_mul]
/-- and what a maximum starts from. -/
theorem word_bot : Ideal.ofBits .f32 0xFF800000#32 = ⊥ := by
  simp [Ideal.ofBits, Ideal.ieee]

/-- The scale that takes `a` to the greatest e4m3 number. -/
def scaleOf (a : EReal) : EReal := Ideal.div a ((448 : ℝ) : EReal)

/-- Quantise and scale back: the value divided by the scale, times the scale. -/
def requant (y s : EReal) : EReal := Ideal.div y s * s

theorem scaleOf_coe (r : ℝ) : scaleOf r = ((r / 448 : ℝ) : EReal) := by
  unfold scaleOf
  rw [Ideal.div_coe (by norm_num), ← EReal.coe_mul, mul_one_div]

theorem scaleOf_top : scaleOf ⊤ = ⊤ := by
  unfold scaleOf
  rw [Ideal.div_coe (by norm_num), EReal.top_mul_coe_of_pos (by norm_num)]

/-- CLIPPING IS IDLE: of a value no greater than `a` in absolute value, divided by the scale of `a`, the clip to
    `[-448, 448]` changes nothing, or the scale is zero and the product is zero whatever was clipped. -/
theorem clip_idle (y a : EReal) (h : max y (-y) ≤ a) :
    min ((448 : ℝ) : EReal) (max ((-448 : ℝ) : EReal) (Ideal.div y (scaleOf a))) * scaleOf a = requant y (scaleOf a) := by
  obtain ⟨h₁, h₂⟩ := max_le_iff.1 h
  unfold requant
  induction a with
  | bot =>
    rw [le_bot_iff] at h₁ h₂
    rw [h₁] at h₂
    exact absurd h₂ (by simp)
  | top =>
    have e : Ideal.div y (⊤ : EReal) = 0 := by simp [Ideal.div]
    rw [scaleOf_top, e, max_eq_right (by exact_mod_cast (by norm_num : (-448 : ℝ) ≤ 0)),
      min_eq_right (by exact_mod_cast (by norm_num : (0 : ℝ) ≤ 448))]
  | coe r =>
    induction y with
    | bot => exact absurd h₂ (by simp)
    | top => exact absurd h₁ (by simp)
    | coe t =>
      have t₁ : t ≤ r := by exact_mod_cast h₁
      have t₂ : -t ≤ r := by exact_mod_cast h₂
      rw [scaleOf_coe]
      rcases eq_or_lt_of_le (show (0 : ℝ) ≤ r by linarith) with h0 | h0
      · rw [← h0, zero_div, EReal.coe_zero, mul_zero, mul_zero]
      · have hp : (0 : ℝ) < r / 448 := by positivity
        have e : Ideal.div (t : EReal) ((r / 448 : ℝ) : EReal) = ((t / (r / 448) : ℝ) : EReal) := by
          rw [Ideal.div_coe hp.ne', ← EReal.coe_mul, mul_one_div]
        have l₁ : -448 ≤ t / (r / 448) := by rw [le_div_iff₀ hp]; linarith
        have l₂ : t / (r / 448) ≤ 448 := by rw [div_le_iff₀ hp]; linarith
        rw [e, max_eq_right (by exact_mod_cast l₁), min_eq_right (by exact_mod_cast l₂)]

/-! ## The greatest element -/

/-- A reshape keeps the greatest element. -/
theorem iSup_shapeCast {s t : Shape} (x : s.Idx → EReal) (h : s.ShapeCasts t) : ⨆ j, shapeCast t x h j = ⨆ i, x i :=
  (Shape.reshapeEquiv h).iSup_comp (g := x)

/-- A maximum folded from `⊥` over every index is the greatest element. -/
theorem fold_max {ι : Type} [Fintype ι] (f : ι → EReal) : Finset.univ.fold max ⊥ f = ⨆ i, f i :=
  (Finset.sup_univ_eq_iSup f)

/-- A maximum over every axis of a block, at the one index of its result, is the block's greatest element. -/
theorem max_all {s t : Shape} {axes : List (Fin s.rank)} (src : FVec Ideal s .f32) (h : s.Reduces axes t)
    (hφ : FKind.Formats .f32) (hacc : 0xFF800000#32 = FKind.maximumf.neutral .f32 hφ) (ht : ∀ b, t.size b = 1) (j : t.Idx) :
    multiReduction .maximumf axes t src 0xFF800000#32 h hφ hacc j = ⨆ i, src i := by
  rw [multiReduction_maximumf_eq_fold]
  have hu : (Finset.univ.filter fun i => h.drop i = j) = Finset.univ :=
    Finset.filter_true_of_mem fun i _ => funext fun b => Fin.ext (by
      have h₁ := (h.drop i b).isLt
      have h₂ := (j b).isLt
      have := ht b
      omega)
  rw [hu]
  show Finset.univ.fold max (Ideal.ofBits .f32 0xFF800000#32) src = _
  rw [word_bot]
  exact fold_max src

/-- The same read out as a scalar, the way the programs take it. -/
theorem max_extract {s t u : Shape} {axes : List (Fin s.rank)} (src : FVec Ideal s .f32) (h : s.Reduces axes t)
    (hφ : FKind.Formats .f32) (hacc : 0xFF800000#32 = FKind.maximumf.neutral .f32 hφ) (ht : ∀ b, t.size b = 1)
    (hc : t.ShapeCasts u) (p : Fin u.rank → Nat) (hp : ∀ a, p a < u.size a) :
    extractAt p (shapeCast u (multiReduction .maximumf axes t src 0xFF800000#32 h hφ hacc) hc) hp = (⨆ i, src i : EReal) :=
  max_all src h hφ hacc ht _

end Cert.Value

end
-- ==== Proof.Value.Product.lean ====
/-
  The product: what a device sums into its rows is the rows of the product of the two whole arrays.
-/
module

public import proofs.«01_k».proof.Proof.Value.Final
public import proofs.«01_k».proof.Proof.Value.Scale
public import Idealize.ShloMosaic.Lib.Layout

@[expose] public section

noncomputable section

namespace Cert.Value

open Idealize.ShloMosaic Idealize.ShloMosaic.TcCoe Idealize.SL.Sem
open Cert.KernelIdeal Cert.KernelIdeal.Gen Cert.Run

/-! ## A device's payloads at an index -/

/-- What a device sends, -/
theorem pay2_at (x : Vec Ideal S512x512 .bf16) (w : Vec Ideal S512x2048 .bf16) (r : Fin 512) (l : Fin 2048) :
    k0_pay2 x w (ix3 (0 : Fin 1) r l) = ∑ k : Fin 512, x (ix2 r k) * w (ix2 k l) := by
  pointwise [k0_pay2]

/-- and its running sum over what it was sent. -/
theorem accOf_at (x : Vec Ideal S512x512 .bf16) (w : Vec Ideal S512x2048 .bf16) (v : Fin 7 → Vec Ideal S1x512x2048 .bf16)
    (r : Fin 512) (l : Fin 2048) :
    accOf x w v (ix2 r l) = (∑ k : Fin 512, x (ix2 r k) * w (ix2 k l)) + ∑ s : Fin 7, v s (ix3 (0 : Fin 1) r l) := by
  rw [Fin.sum_univ_seven]
  pointwise [accOf, accHead, k0_pay9, k0_pay10, k0_pay11, k0_pay12, k0_pay13, k0_pay14]
  ac_rfl

/-! ## The whole product -/

/-- The shapes of the whole arrays. -/
abbrev SX : Shape := ⟨2, ![4096, 4096]⟩
abbrev SW : Shape := ⟨2, ![4096, 2048]⟩

/-- The product of the whole arrays. -/
def prod (X : Vec Ideal SX .bf16) (W : Vec Ideal SW .bf16) : SW.Idx → EReal :=
  fun i => ∑ k : Fin 4096, X (ix2 (i 0) k) * W (ix2 k (i 1))

/-- Row (or column) `r` of device `d`'s block, in the whole array. -/
def glob (d : Dev nD) (r : Fin 512) : Fin 4096 := ⟨512 * d.val + r.val, by
  have h : d.val < 8 := d.isLt
  have := r.isLt
  omega⟩

/-- Device by device, the launch memory holds the blocks of `X` (by columns) and of `W` (by rows). -/
def Cut (m : (ℓ : Loc nD τ sig) → Buf (Elt Ideal) ℓ) (X : Vec Ideal SX .bf16) (W : Vec Ideal SW .bf16) : Prop :=
  ∀ c : Dev nD, m ((c.tc : Thread nD τ).loc main_arg0) = Layout.block S4096x512 SX 1 8 c X
    ∧ m ((c.tc : Thread nD τ).loc main_arg1) = Layout.block S512x2048 SW 0 8 c W

/-- A sum over devices, from `c`'s point of view: itself and the seven whose data lands with it. -/
theorem sum_dev (f : Dev nD → EReal) (c : Dev nD) : ∑ d, f d = f c + ∑ s : Fin 7, f (src c s) := by
  have h : (Finset.univ : Finset (Dev nD)).erase c = Finset.univ.image (src c) := by
    ext d
    rw [Finset.mem_erase, Finset.mem_image]
    refine ⟨fun hd => ?_, ?_⟩
    · obtain ⟨s, hs⟩ := src_surj c d hd.1
      exact ⟨s, Finset.mem_univ s, hs⟩
    · rintro ⟨s, -, rfl⟩
      exact ⟨src_ne c s, Finset.mem_univ _⟩
  rw [← Finset.add_sum_erase _ f (Finset.mem_univ c), h, Finset.sum_image fun s _ s' _ e => src_inj c s s' e]

/-- A sum over the whole contracted axis is the sum over devices of the sums over their blocks. -/
theorem sum_glob (f : Fin 4096 → EReal) : ∑ k, f k = ∑ d : Dev nD, ∑ k : Fin 512, f (glob d k) := by
  rw [← Fintype.sum_prod_type' fun (d : Dev nD) (k : Fin 512) => f (glob d k)]
  refine (Equiv.sum_comp (finProdFinEquiv (m := 8) (n := 512)) (f : Fin (8 * 512) → EReal)).symm.trans ?_
  refine Finset.sum_congr rfl fun p _ => congrArg f (Fin.ext ?_)
  show p.2.val + 512 * p.1.val = 512 * p.1.val + p.2.val
  omega

variable {m : (ℓ : Loc nD τ sig) → Buf (Elt Ideal) ℓ} {X : Vec Ideal SX .bf16} {W : Vec Ideal SW .bf16}

/-- Device `d`'s columns in the rows of device `c`, in the whole array. -/
theorem xrows_at (h : Cut m X W) (d c : Dev nD) (r k : Fin 512) :
    xrows m d c (ix2 r k) = X (ix2 (glob c r) (glob d k)) := by
  unfold xrows
  rw [xstg_eq, (h d).1, Layout.block_apply]
  refine congrArg X (funext fun a => Fin.ext ?_)
  rw [Layout.Tiles.idx_val]
  fin_cases a
  · show 512 * c.val + 1 * r.val = 512 * c.val + r.val
    omega
  · show d.val * 512 + (0 + 1 * k.val) = 512 * d.val + k.val
    omega

/-- Device `d`'s rows of the second factor, in the whole array. -/
theorem wstg_at (h : Cut m X W) (d : Dev nD) (k : Fin 512) (l : Fin 2048) :
    wstg m d (ix2 k l) = W (ix2 (glob d k) l) := by
  rw [wstg_eq, (h d).2, Layout.block_apply]
  refine congrArg W (funext fun a => Fin.ext ?_)
  rw [Layout.Tiles.idx_val]
  fin_cases a
  · show d.val * 512 + k.val = 512 * d.val + k.val
    omega
  · rfl

/-- THE SUM a device forms is its rows of the whole product. -/
theorem accv_at (h : Cut m X W) (c : Dev nD) (r : Fin 512) (l : Fin 2048) :
    accv m c (ix2 r l) = prod X W (ix2 (glob c r) l) := by
  have e : ∀ d : Dev nD, ∑ k : Fin 512, xrows m d c (ix2 r k) * wstg m d (ix2 k l)
      = ∑ k : Fin 512, X (ix2 (glob c r) (glob d k)) * W (ix2 (glob d k) l) :=
    fun d => Finset.sum_congr rfl fun k _ => by rw [xrows_at h, wstg_at h]
  unfold accv prod
  rw [accOf_at, sum_glob, sum_dev _ c, e]
  refine congrArg _ (Finset.sum_congr rfl fun s _ => ?_)
  unfold part
  rw [pay2_at, e]
  rfl

end Cert.Value

end
-- ==== Proof.Value.Out.lean ====
/-
  The kernel's result: every device ends with the product quantised by the greatest absolute value of the WHOLE product.
-/
module

public import proofs.«01_k».proof.Proof.Value.Product

@[expose] public section

noncomputable section

namespace Cert.Value

open Idealize.ShloMosaic Idealize.ShloMosaic.TcCoe Idealize.SL.Sem
open Cert.KernelIdeal Cert.KernelIdeal.Gen Cert.Run

/-- The absolute value. -/
def mag (y : EReal) : EReal := max y (-y)

/-- The greatest absolute value of an array. -/
def top {ι : Type} (y : ι → EReal) : EReal := ⨆ i, mag (y i)

/-- THE RESULT: the product, quantised with the scale of its greatest absolute value and scaled back. -/
def result (X : Vec Ideal SX .bf16) (W : Vec Ideal SW .bf16) : SW.Idx → EReal :=
  fun i => requant (prod X W i) (scaleOf (top (prod X W)))

/-! ## The kernel -/

/-- The maximum a device takes of its own rows, -/
theorem pay16_eq (a : FVec Ideal S1x512x2048 .f32) : k0_pay16 a = (⨆ i, a i : EReal) := by
  exact max_extract a reduces_S1x512x2048_S1 (.inl rfl) rfl (fun b => by fin_cases b; rfl) shapeCasts_S1_S1x1x1 _ inpos_S1x1x1_p0_0_0

/-- a message of one value, read anywhere, -/
theorem message_at (z : Ideal .f32) (j : S8x128.Idx) :
    shapeCast S8x128 (addf (broadcast S8x128 (Scalar.ofBits (F := Ideal) .f32 0x00000000#32)) (broadcast S8x128 z)) shapeCasts_S8x128_S8x128 j = z := by
  rw [shapeCast_self]
  exact (congrArg (· + (z : EReal)) Ideal.ofBits_zero_f32).trans (zero_add _)

/-- the message it makes of its maximum, -/
theorem pay17_at (a : FVec Ideal S1x512x2048 .f32) (j : S8x128.Idx) : k0_pay17 a j = (⨆ i, a i : EReal) := by
  rw [← pay16_eq]
  exact message_at (k0_pay16 a) j

/-- and the scale it makes of its own maximum and of the seven it was sent. -/
theorem pay18_eq (z : EReal) (b : Vec Ideal S7x8x128 .f32) : k0_pay18 (F := Ideal) z b = scaleOf (max (⨆ i, b i : EReal) z) := by
  have h := max_extract (shapeCast S1x7x8x128 b shapeCasts_S7x8x128_S1x7x8x128) reduces_S1x7x8x128_S1 (.inl rfl) rfl
    (fun b => by fin_cases b; rfl) shapeCasts_S1_S1x1x1x1 _ inpos_S1x1x1x1_p0_0_0_0
  rw [iSup_shapeCast] at h
  unfold scaleOf
  rw [← word_448, ← h]
  rfl

variable (m : (ℓ : Loc nD τ sig) → Buf (Elt Ideal) ℓ)

/-- A device's maximum is the greatest absolute value of its rows. -/
theorem absv_top (c : Dev nD) : ⨆ i, absv m c i = top (accv m c) :=
  iSup_shapeCast (absf (accv m c)) shapeCasts_S512x2048_S1x512x2048

/-- Over the devices, the greatest absolute values of the rows make the greatest of all. -/
theorem scale_eq (c : Dev nD) : scale m c = scaleOf (⨆ d, top (accv m d)) := by
  unfold scale
  rw [pay16_eq, pay18_eq, absv_top]
  have e : ∀ i, amBuf m c i = top (accv m (src c (i 0))) := fun i => by
    rw [← absv_top]
    exact pay17_at (absv m (src c (i 0))) _
  refine congrArg scaleOf (le_antisymm (max_le (iSup_le fun i => ?_) (le_iSup (fun d => top (accv m d)) c)) (iSup_le fun d => ?_))
  · rw [e]
    exact le_iSup (fun d => top (accv m d)) _
  · by_cases hd : d = c
    · exact hd ▸ le_max_right _ _
    · obtain ⟨s, rfl⟩ := src_surj c d hd
      refine le_max_of_le_left ?_
      have h := le_iSup (amBuf m c) (ix3 s (0 : Fin 8) (0 : Fin 128))
      rw [e] at h
      exact h

/-- What a device writes at device `d`'s rows: `d`'s quotients times its own scale. -/
theorem rowsAt_at (c d : Dev nD) (j : S512x2048.Idx) : rowsAt m c d j = Ideal.div (accv m d j) (scale m d) * scale m c := by
  unfold rowsAt k0_pay1 qmsg k0_pay20
  simp only [shapeCast_self, shapeCast_shapeCast]
  rfl

variable {m} {X : Vec Ideal SX .bf16} {W : Vec Ideal SW .bf16}

/-- The greatest absolute value over devices and their rows is that of the whole product. -/
theorem top_eq (h : Cut m X W) : ⨆ d, top (accv m d) = top (prod X W) := by
  have e : ∀ (d : Dev nD) (j : S512x2048.Idx), accv m d j = prod X W (ix2 (glob d (j 0)) (j 1)) := fun d j =>
    (congrArg (accv m d) ((ValueIdx.eq_ix2 j).trans (ix2_eq_valueIdx (j 0) (j 1)).symm)).trans (accv_at h d (j 0) (j 1))
  refine le_antisymm (iSup_le fun d => iSup_le fun j => ?_) (iSup_le fun i => ?_)
  · rw [e]
    exact le_iSup (fun i => mag (prod X W i)) _
  · have hi : (i 0).val < 4096 := (i 0).isLt
    refine le_iSup_of_le (⟨(i 0).val / 512, by show _ < 8; omega⟩ : Dev nD) ?_
    refine le_iSup_of_le (ix2 (⟨(i 0).val % 512, Nat.mod_lt _ (by decide)⟩ : Fin 512) (i 1)) ?_
    rw [e]
    refine le_of_eq (congrArg (fun i => mag (prod X W i)) ?_)
    funext a
    fin_cases a
    · exact Fin.ext (Nat.div_add_mod _ _).symm
    · rfl

/-- EVERY DEVICE ends with the result. -/
theorem outAt_eq (h : Cut m X W) (c : Dev nD) : outAt m c = result X W := by
  funext i
  unfold outAt result requant
  rw [rowsAt_at, scale_eq, scale_eq, top_eq h]
  refine congrArg (fun y => Ideal.div y (scaleOf (top (prod X W))) * scaleOf (top (prod X W))) ?_
  refine (congrArg (accv m _) (ix2_eq_valueIdx _ _).symm).trans ((accv_at h _ _ _).trans (congrArg (prod X W) ?_))
  funext a
  fin_cases a
  · exact Fin.ext (Nat.div_add_mod _ _)
  · rfl

end Cert.Value

end
-- ==== Proof.Value.RefOut.lean ====
/-
  The reference's result: the same, its clip being idle.
-/
module

public import proofs.«01_k».proof.Proof.Value.Out
public import proofs.«01_k».proof.Proof.Gen.ReferenceIdeal.Skeleton

@[expose] public section

noncomputable section

namespace Cert.Value

open Idealize.ShloMosaic
open Cert.ReferenceIdeal Cert.ReferenceIdeal.Gen

/-- The scale the reference makes of the product, -/
def refScale (y : FVec Ideal S4096x2048 .f32) : Ideal .f32 :=
  Scalar.divf (extractAt ![0, 0, 0] (shapeCast S1x1x1 (multiReduction .maximumf [1, 2] S1
    (shapeCast S1x4096x2048 (absf y) shapeCasts_S4096x2048_S1x4096x2048) 0xFF800000#32 reduces_S1x4096x2048_S1 (.inl rfl) rfl)
    shapeCasts_S1_S1x1x1) inpos_S1x1x1_p0_0_0) (Scalar.ofBits .f32 0x43E00000#32)

/-- and what it does with the product and the scale. -/
def refQuant (y : FVec Ideal S4096x2048 .f32) (s : Ideal .f32) : FVec Ideal S4096x2048 .f32 :=
  mulf (minimumf (broadcast S4096x2048 (Scalar.ofBits .f32 0x43E00000#32))
    (maximumf (broadcast S4096x2048 (Scalar.ofBits .f32 0xC3E00000#32)) (divf y (broadcast S4096x2048 s)))) (broadcast S4096x2048 s)

/-- The reference's product, -/
theorem ref_prod (X : Vec Ideal SX .bf16) (W : Vec Ideal SW .bf16) :
    matmul (φ₁ := .bf16) (φ₂ := .bf16) dot_S4096x4096_S4096x2048_S4096x2048_1_0_0_1_n_n none X W
      (constant (F := Ideal) S4096x2048 .f32 0x00000000#32) = prod X W := by
  funext i
  unfold prod
  pointwise

/-- its scale, -/
theorem refScale_eq (y : S4096x2048.Idx → EReal) : refScale y = scaleOf (top y) := by
  have h := max_extract (shapeCast S1x4096x2048 (absf (F := Ideal) (φ := .f32) y) shapeCasts_S4096x2048_S1x4096x2048)
    reduces_S1x4096x2048_S1 (.inl rfl) rfl (fun b => by fin_cases b; rfl) shapeCasts_S1_S1x1x1 _ inpos_S1x1x1_p0_0_0
  rw [iSup_shapeCast] at h
  unfold refScale scaleOf
  rw [← word_448]
  exact congrArg (fun x => Ideal.div x _) h

/-- and THE REFERENCE's result: its clip is idle. -/
theorem reference_eq (X : Vec Ideal SX .bf16) (W : Vec Ideal SW .bf16) : k0_pay1 X W = result X W := by
  have h : k0_pay1 X W = refQuant (matmul (φ₁ := .bf16) (φ₂ := .bf16) dot_S4096x4096_S4096x2048_S4096x2048_1_0_0_1_n_n none X W
      (constant (F := Ideal) S4096x2048 .f32 0x00000000#32))
      (refScale (matmul (φ₁ := .bf16) (φ₂ := .bf16) dot_S4096x4096_S4096x2048_S4096x2048_1_0_0_1_n_n none X W
      (constant (F := Ideal) S4096x2048 .f32 0x00000000#32))) := rfl
  rw [h, ref_prod, refScale_eq]
  funext i
  show min (Ideal.ofBits .f32 0x43E00000#32) (max (Ideal.ofBits .f32 0xC3E00000#32)
      (Ideal.div (prod X W i) (scaleOf (top (prod X W))))) * scaleOf (top (prod X W)) = _
  rw [word_448, word_neg448]
  exact clip_idle _ _ (le_iSup (fun i => mag (prod X W i)) i)

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Run.Run
public import proofs.«01_k».proof.Proof.Value.Final
public import proofs.«01_k».proof.Proof.Value.Out
public import proofs.«01_k».proof.Proof.Value.RefOut
public import Idealize.ShloMosaic.Adequacy
public import Idealize.ShloMosaic.Init
public import proofs.«01_k».proof.Proof.Gen.ReferenceIdeal.Value

@[expose] public section

noncomputable section

namespace Cert.Proof

open Idealize.ShloMosaic Idealize.SL.Sem

set_option maxRecDepth 65536 in
/-- The program as printed and the program read at the ideal instance are one text: at words their body tables agree. -/
theorem same_defs : Cert.Kernel.defs (F := Bits) = Cert.KernelIdeal.defs (F := Bits) := by chain_rfl

/-- The printed kernel runs, keeps its arguments and leaves every semaphore at zero: the run holds at any values, words
    among them. -/
theorem quiescent_kernel : quiescent_Kernel := fun m g _ => by
  have h := Cert.Run.frame_main (F := Bits) m g
  rw [← same_defs] at h
  exact h

/-- THE VALUE: from devices that hold their blocks of the reference's arrays, every device and the reference end with one
    array, the product quantised and scaled back. -/
theorem algebraic : algebraic_KernelIdeal_ReferenceIdeal := fun m g m' g' _ hcut =>
  ⟨Cert.Value.result _ _,
    (θ_run _ _ _).mono (fun r h c => ⟨(h c).1.trans (Cert.Value.outAt_eq hcut c), (h c).2⟩) (Cert.Value.run_out m g),
    (θ_run _ _ _).mono (fun r h => ⟨(h 0).1.trans (Cert.Value.reference_eq _ _), (h 0).2⟩) (Cert.ReferenceIdeal.Value.run m' g')⟩

theorem claim : Cert.Claim := ⟨Cert.Kernel.Gen.facts, Cert.KernelIdeal.Gen.facts, Cert.ReferenceIdeal.Gen.facts,
  quiescent_kernel, fun m g _ => Cert.Run.frame_main m g, fun m g _ => Cert.ReferenceIdeal.Gen.frame m g, trivial, algebraic⟩

end Cert.Proof

end
